-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![8, 256, 512]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![128, 512]⟩ ⟨2, ![512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S512x256 : Shape := ⟨2, ![512, 256]⟩
abbrev S256x8 : Shape := ⟨2, ![256, 8]⟩
abbrev S512x1 : Shape := ⟨2, ![512, 1]⟩
abbrev S2x256x512 : Shape := ⟨3, ![2, 256, 512]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  bcast_S_S256x8 : S_.BroadcastsInDim S256x8 (![] : Fin 0 → Fin S256x8.rank)

variable [Facts]

def fn {F : FTy → Type} [FloatOps F] (main_arg0 : FVec F S512x256 .f32) (main_arg1 : FVec F S256x8 .f32) (main_arg2 : IVec S512x1 32) (main_arg3 : FVec F S2x256x512 .f32) (main_arg4 : FVec F S256x512 .f32) : IVec S512x256 1 × IVec S256x8 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_v3 : FVec F S256x8 .f32 := Host.absf main_arg1
  let main_cst_0 : FVec F S_ .f32 := constant S_ .f32 0x7F800000#32
  let main_v4 : FVec F S256x8 .f32 := broadcastInDim S256x8 ![] bcast_S_S256x8 main_cst_0
  let main_v5 : IVec S256x8 1 := cmpf .olt main_v3 main_v4
  (main_v2, main_v5)
-- ==== Pre_finite_scores_ReferenceIdeal.lean ====
abbrev S512x256 : Shape := ⟨2, ![512, 256]⟩
abbrev S256x8 : Shape := ⟨2, ![256, 8]⟩
abbrev S512x1 : Shape := ⟨2, ![512, 1]⟩
abbrev S8x256x512 : Shape := ⟨3, ![8, 256, 512]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  bcast_S_S256x8 : S_.BroadcastsInDim S256x8 (![] : Fin 0 → Fin S256x8.rank)

variable [Facts]

def fn {F : FTy → Type} [FloatOps F] (main_arg0 : FVec F S512x256 .f32) (main_arg1 : FVec F S256x8 .f32) (main_arg2 : IVec S512x1 32) (main_arg3 : FVec F S8x256x512 .f32) (main_arg4 : FVec F S256x512 .f32) : IVec S512x256 1 × IVec S256x8 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_v3 : FVec F S256x8 .f32 := Host.absf main_arg1
  let main_cst_0 : FVec F S_ .f32 := constant S_ .f32 0x7F800000#32
  let main_v4 : FVec F S256x8 .f32 := broadcastInDim S256x8 ![] bcast_S_S256x8 main_cst_0
  let main_v5 : IVec S256x8 1 := cmpf .olt main_v3 main_v4
  (main_v2, main_v5)
-- ==== Kernel.lean ====
abbrev S512x256 : Shape := ⟨2, ![512, 256]⟩
abbrev S256x8 : Shape := ⟨2, ![256, 8]⟩
abbrev S512x1 : Shape := ⟨2, ![512, 1]⟩
abbrev S2x256x512 : Shape := ⟨3, ![2, 256, 512]⟩
abbrev S256x512 : Shape := ⟨2, ![256, 512]⟩
abbrev S512x512 : Shape := ⟨2, ![512, 512]⟩
abbrev S128x512 : Shape := ⟨2, ![128, 512]⟩
abbrev S4x128x512 : Shape := ⟨3, ![4, 128, 512]⟩
abbrev S3 : Shape := ⟨1, ![3]⟩
abbrev S4 : Shape := ⟨1, ![4]⟩
abbrev S_ : Shape := ⟨0, ![]⟩
abbrev S1x128x512 : Shape := ⟨3, ![1, 128, 512]⟩
abbrev S512x8 : Shape := ⟨2, ![512, 8]⟩
abbrev S512 : Shape := ⟨1, ![512]⟩
abbrev S1 : Shape := ⟨1, ![1]⟩
abbrev S128x256 : Shape := ⟨2, ![128, 256]⟩

abbrev nBuf : Space → Nat
  | .hbm => 8
  | .vmem => 9
  | .smem => 0
  | _ => 0

abbrev bufTy : (tb : Table) → Fin (tcTables nBuf tb) → BufTy
  | .hbm, ⟨0, _⟩ => ⟨S512x256, .f32⟩
  | .hbm, ⟨1, _⟩ => ⟨S256x8, .f32⟩
  | .hbm, ⟨2, _⟩ => ⟨S512x1, .i32⟩
  | .hbm, ⟨3, _⟩ => ⟨S2x256x512, .f32⟩
  | .hbm, ⟨4, _⟩ => ⟨S256x512, .f32⟩
  | .hbm, ⟨5, _⟩ => ⟨S512x512, .f32⟩
  | .hbm, ⟨6, _⟩ => ⟨S512x512, .bf16⟩
  | .hbm, ⟨7, _⟩ => ⟨S128x512, .bf16⟩
  | .local _ .vmem, ⟨0, _⟩ => ⟨S512x256, .f32⟩
  | .local _ .vmem, ⟨1, _⟩ => ⟨S256x8, .f32⟩
  | .local _ .vmem, ⟨2, _⟩ => ⟨S512x1, .i32⟩
  | .local _ .vmem, ⟨3, _⟩ => ⟨S512x512, .bf16⟩
  | .local _ .vmem, ⟨4, _⟩ => ⟨S256x512, .f32⟩
  | .local _ .vmem, ⟨5, _⟩ => ⟨S128x512, .bf16⟩
  | .local _ .vmem, ⟨6, _⟩ => ⟨S512x512, .bf16⟩
  | .local _ .vmem, ⟨7, _⟩ => ⟨S512x512, .bf16⟩
  | .local _ .vmem, ⟨8, _⟩ => ⟨S4x128x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.addi v2 c2_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_19 : BitVec 32 := 1#32
  let v37 : BitVec 32 := Scalar.muli v13 c1_i32_19
  let v38 : BitVec 32 := Scalar.addi c0_i32_20 v37
  v38.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v14 : BitVec 32 := Scalar.addi v2 c1_i32_5
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_22 : BitVec 32 := 1#32
  let v39 : BitVec 32 := Scalar.muli v24 c1_i32_22
  let v40 : BitVec 32 := Scalar.addi c0_i32_23 v39
  v40.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_25 : BitVec 32 := 1#32
  let v41 : BitVec 32 := Scalar.muli v35 c1_i32_25
  let v42 : BitVec 32 := Scalar.addi c0_i32_26 v41
  v42.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v44 : Index := Scalar.indexCast v2
  let c0 : Index := 0#32
  let c0_27 : Index := 0#32
  ![v44.toNat, 0, 0]
def k0_off2 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_59 : BitVec 32 := 0#32
  let c0_i32_60 : BitVec 32 := 0#32
  ![v2.toNat, 0, 0]
def k0_off4 (d0 : Dev nD) (c2_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c2_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c128_i32 : BitVec 32 := 128#32
  let v103 : BitVec 32 := Scalar.muli v13 c128_i32
  let c0_i32_61 : BitVec 32 := 0#32
  ![v103.toNat, 0]
def k0_dev4 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.addi v2 c2_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_57 : BitVec 32 := 1#32
  let v104 : BitVec 32 := Scalar.muli v13 c1_i32_57
  let v105 : BitVec 32 := Scalar.addi c0_i32_58 v104
  v105.toNat
def k0_dev5 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v14 : BitVec 32 := Scalar.addi v2 c1_i32_5
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_64 : BitVec 32 := 1#32
  let v114 : BitVec 32 := Scalar.muli v24 c1_i32_64
  let v115 : BitVec 32 := Scalar.addi c0_i32_65 v114
  v115.toNat
def k0_dev6 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_71 : BitVec 32 := 1#32
  let v124 : BitVec 32 := Scalar.muli v35 c1_i32_71
  let v125 : BitVec 32 := Scalar.addi c0_i32_72 v124
  v125.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_76 : BitVec 32 := 128#32
  let v133 : BitVec 32 := Scalar.muli v2 c128_i32_76
  let v134 : Index := Scalar.indexCast v133
  let c0_77 : Index := 0#32
  ![v134.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_81 : BitVec 32 := 128#32
  let v140 : BitVec 32 := Scalar.muli v2 c128_i32_81
  let v141 : Index := Scalar.indexCast v140
  let c0_82 : Index := 0#32
  ![v141.toNat, 0]
def k0_off7 (d0 : Dev nD) (c2_i32 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c2_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  ![v13.toNat]
def k0_off8 (d0 : Dev nD) (c2_i32 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c2_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c0_i32_87 : BitVec 32 := 0#32
  let c0_i32_88 : BitVec 32 := 0#32
  ![v13.toNat, 0, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x256 : Shape := ⟨2, ![512, 256]⟩
abbrev S256x8 : Shape := ⟨2, ![256, 8]⟩
abbrev S512x1 : Shape := ⟨2, ![512, 1]⟩
abbrev S8x256x512 : Shape := ⟨3, ![8, 256, 512]⟩
abbrev S256x512 : Shape := ⟨2, ![256, 512]⟩
abbrev S512x8 : Shape := ⟨2, ![512, 8]⟩
abbrev S_ : Shape := ⟨0, ![]⟩
abbrev S512 : Shape := ⟨1, ![512]⟩
abbrev S512x512 : Shape := ⟨2, ![512, 512]⟩
abbrev S512x2 : Shape := ⟨2, ![512, 2]⟩
abbrev S2 : Shape := ⟨1, ![2]⟩
abbrev S1x2 : Shape := ⟨2, ![1, 2]⟩
abbrev S512x8x512 : Shape := ⟨3, ![512, 8, 512]⟩

abbrev nBuf : Space → Nat
  | .hbm => 48
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x8, .f32⟩
  | .hbm, ⟨2, _⟩ => ⟨S512x1, .i32⟩
  | .hbm, ⟨3, _⟩ => ⟨S8x256x512, .f32⟩
  | .hbm, ⟨4, _⟩ => ⟨S256x512, .f32⟩
  | .hbm, ⟨5, _⟩ => ⟨S512x8, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S512x8, .f32⟩
  | .hbm, ⟨10, _⟩ => ⟨S512x8, .f32⟩
  | .hbm, ⟨11, _⟩ => ⟨S512x8, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S512x8, .f32⟩
  | .hbm, ⟨16, _⟩ => ⟨S512x8, .f32⟩
  | .hbm, ⟨17, _⟩ => ⟨S512x512, .f32⟩
  | .hbm, ⟨18, _⟩ => ⟨S512, .i32⟩
  | .hbm, ⟨19, _⟩ => ⟨S512, .i32⟩
  | .hbm, ⟨20, _⟩ => ⟨S512x1, .i32⟩
  | .hbm, ⟨21, _⟩ => ⟨S512x1, .i32⟩
  | .hbm, ⟨22, _⟩ => ⟨S512x2, .i32⟩
  | .hbm, ⟨23, _⟩ => ⟨S2, .i32⟩
  | .hbm, ⟨24, _⟩ => ⟨S_, .i32⟩
  | .hbm, ⟨25, _⟩ => ⟨S512x2, .i32⟩
  | .hbm, ⟨26, _⟩ => ⟨S512x2, .i1⟩
  | .hbm, ⟨27, _⟩ => ⟨S1x2, .i32⟩
  | .hbm, ⟨28, _⟩ => ⟨S512x2, .i32⟩
  | .hbm, ⟨29, _⟩ => ⟨S512x2, .i1⟩
  | .hbm, ⟨30, _⟩ => ⟨S512x2, .i1⟩
  | .hbm, ⟨31, _⟩ => ⟨S_, .i1⟩
  | .hbm, ⟨32, _⟩ => ⟨S512, .i1⟩
  | .hbm, ⟨33, _⟩ => ⟨S512, .f32⟩
  | .hbm, ⟨34, _⟩ => ⟨S_, .f32⟩
  | .hbm, ⟨35, _⟩ => ⟨S512, .f32⟩
  | .hbm, ⟨36, _⟩ => ⟨S512, .f32⟩
  | .hbm, ⟨37, _⟩ => ⟨S512x8x512, .f32⟩
  | .hbm, ⟨38, _⟩ => ⟨S512, .i32⟩
  | .hbm, ⟨39, _⟩ => ⟨S512x1, .i32⟩
  | .hbm, ⟨40, _⟩ => ⟨S512x1, .i32⟩
  | .hbm, ⟨41, _⟩ => ⟨S512x2, .i32⟩
  | .hbm, ⟨42, _⟩ => ⟨S512x512, .f32⟩
  | .hbm, ⟨43, _⟩ => ⟨S512x1, .f32⟩
  | .hbm, ⟨44, _⟩ => ⟨S512x512, .f32⟩
  | .hbm, ⟨45, _⟩ => ⟨S512x512, .f32⟩
  | .hbm, ⟨46, _⟩ => ⟨S512x512, .f32⟩
  | .hbm, ⟨47, _⟩ => ⟨S512x512, .bf16⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Proof.Protocol.lean ====
/- The exchange protocol of the kernel: who signals whom, which semaphore cells there are, what each signal and each
   copy hands over, and in which order a device may wait.
   Four devices; device `c` talks to the peers `c + 2`, `c + 1`, `c + 3` (modulo 4), in that order. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Rounds
public import Idealize.ShloMosaic.Lib.Pipeline.RegionTalk
public import Idealize.ShloMosaic.Lib.Ring
public import Idealize.ShloMosaic.Lib.ValueIdxCore

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Cert.KernelIdeal Cert.KernelIdeal.Gen

variable {F : FTy → Type} [FloatOps F]

/-! ## Peers -/

/-- The `j`-th peer of device `c`: the one two, one, three further round. -/
def pe (c : Dev nD) (j : Fin 3) : Dev nD := ⟨(c.val + (![2, 1, 3] j : ℕ)) % 4, Nat.mod_lt _ (by decide)⟩
/-- The place that device `c` has among the peers of its `j`-th peer. -/
def bk (j : Fin 3) : Fin 3 := ![0, 2, 1] j

theorem pe_bk (c : Dev nD) (j : Fin 3) : pe (pe c j) (bk j) = c := by revert c j; decide
theorem bk_bk (j : Fin 3) : bk (bk j) = j := by revert j; decide
theorem pe_ne (c : Dev nD) (j : Fin 3) : pe c j ≠ c := by revert c j; decide
theorem ne_pe (c : Dev nD) (j : Fin 3) : c ≠ pe c j := by revert c j; decide
theorem pe_inj (c : Dev nD) {i j : Fin 3} (h : pe c i = pe c j) : i = j := by revert c i j; decide
theorem exists_pe {c d : Dev nD} (h : d ≠ c) : ∃ j, d = pe c j := by revert c d; decide
theorem erase_eq (c : Dev nD) : (Finset.univ.erase c : Finset (Dev nD)) = {pe c 0, pe c 1, pe c 2} := by revert c; decide
theorem univ_eq (c : Dev nD) : (Finset.univ : Finset (Dev nD)) = {c, pe c 0, pe c 1, pe c 2} := by revert c; decide

theorem dev1_eq (c : Dev nD) : (⟨k0_dev1 c, k0_dev1_lt c⟩ : Dev nD) = pe c 0 := by revert c; decide +kernel
theorem dev2_eq (c : Dev nD) : (⟨k0_dev2 c, k0_dev2_lt c⟩ : Dev nD) = pe c 1 := by revert c; decide +kernel
theorem dev3_eq (c : Dev nD) : (⟨k0_dev3 c, k0_dev3_lt c⟩ : Dev nD) = pe c 2 := by revert c; decide +kernel
theorem dev4_eq (c : Dev nD) : (⟨k0_dev4 c, k0_dev4_lt c⟩ : Dev nD) = pe c 0 := by revert c; decide +kernel
theorem dev5_eq (c : Dev nD) : (⟨k0_dev5 c, k0_dev5_lt c⟩ : Dev nD) = pe c 1 := by revert c; decide +kernel
theorem dev6_eq (c : Dev nD) : (⟨k0_dev6 c, k0_dev6_lt c⟩ : Dev nD) = pe c 2 := by revert c; decide +kernel

theorem off4_0 (c : Dev nD) : k0_off4 c 2#32 = ![128 * (pe c 0).val, 0] := by revert c; decide +kernel
theorem off4_1 (c : Dev nD) : k0_off4 c 1#32 = ![128 * (pe c 1).val, 0] := by revert c; decide +kernel
theorem off4_2 (c : Dev nD) : k0_off4 c 3#32 = ![128 * (pe c 2).val, 0] := by revert c; decide +kernel

/-! ## Semaphores and cells -/

/-- The runtime's barrier semaphore; the three semaphores of the outgoing copies; the four of the incoming ones. -/
abbrev barS : Sem sig := (SemArray.scalar (sig.barrier 0 rfl) : Sems sig S_).sem
def sendS (j : Fin 3) : DmaSem sig := ⟨6 + j.val, by have := j.isLt; show 6 + j.val < 13; omega⟩
def recvS (s : Dev nD) : DmaSem sig := ⟨9 + s.val, by have : s.val < 4 := s.isLt; show 9 + s.val < 13; omega⟩

abbrev barCell (c : Dev nD) : GSem nD τ sig := ((c : Thread nD τ), .reg barS)
abbrev sendCell (c : Dev nD) (j : Fin 3) : GSem nD τ sig := ((c : Thread nD τ), .dma (sendS j))
abbrev recvCell (c s : Dev nD) : GSem nD τ sig := ((c : Thread nD τ), .dma (recvS s))

theorem sendSem0 : ((cc0_scratch3.slice (Rect.unit (s := S3) ![0] S1.size inb_S3_S1_0)).squeeze S_ squeezes_S1_S_).sem = sendS 0 := by decide +kernel
theorem sendSem1 : ((cc0_scratch3.slice (Rect.unit (s := S3) ![1] S1.size inb_S3_S1_1)).squeeze S_ squeezes_S1_S_).sem = sendS 1 := by decide +kernel
theorem sendSem2 : ((cc0_scratch3.slice (Rect.unit (s := S3) ![2] S1.size inb_S3_S1_2)).squeeze S_ squeezes_S1_S_).sem = sendS 2 := by decide +kernel
theorem recvSemOwn (c : Dev nD) : ((cc0_scratch4.slice (Rect.unit (s := S4) (k0_off2 c) S1.size (k0_off2_inb c))).squeeze S_ squeezes_S1_S_).sem = recvS c := by
  revert c; decide +kernel
theorem recvSem0 (c : Dev nD) : ((cc0_scratch4.slice (Rect.unit (s := S4) (k0_off7 c 2#32) S1.size (k0_off7_inb c 1))).squeeze S_ squeezes_S1_S_).sem = recvS (pe c 0) := by
  revert c; decide +kernel
theorem recvSem1 (c : Dev nD) : ((cc0_scratch4.slice (Rect.unit (s := S4) (k0_off7 c 1#32) S1.size (k0_off7_inb c 0))).squeeze S_ squeezes_S1_S_).sem = recvS (pe c 1) := by
  revert c; decide +kernel
theorem recvSem2 (c : Dev nD) : ((cc0_scratch4.slice (Rect.unit (s := S4) (k0_off7 c 3#32) S1.size (k0_off7_inb c 2))).squeeze S_ squeezes_S1_S_).sem = recvS (pe c 2) := by
  revert c; decide +kernel

/-- What a semaphore is in the protocol. -/
inductive Role
  | bar
  | send (j : Fin 3)
  | recv (s : Dev nD)
  | other
  deriving DecidableEq

/-- The role of each semaphore, read off its place in the program's table. -/
def role : SemLoc sig → Role
  | .reg _ => .bar
  | .dma i => if h : 9 ≤ i.val then .recv ⟨i.val - 9, by have : i.val < 13 := i.isLt; show i.val - 9 < 4; omega⟩
      else if h' : 6 ≤ i.val then .send ⟨i.val - 6, by omega⟩ else .other

theorem role_bar : role (.reg barS) = .bar := rfl
theorem role_send (j : Fin 3) : role (.dma (sendS j)) = .send j := by revert j; decide
theorem role_recv (s : Dev nD) : role (.dma (recvS s)) = .recv s := by revert s; decide

/-! ## Buffers and their parts -/

abbrev partB : Ref sig .tc := cc0_scratch1
abbrev commB : Ref sig .tc := cc0_scratch2

/-- The rows of the partial result that belong to device `d`'s output. -/
def rowSet (d : Dev nD) : Finset (S512x512.Idx) := (Rect.unit (s := S512x512) ![128 * d.val, 0] S128x512.size (by revert d; decide)).set
/-- The slot of the landing buffer that receives from device `d`. -/
def slotSet (d : Dev nD) : Finset (S4x128x512.Idx) := (Rect.unit (s := S4x128x512) ![d.val, 0, 0] S1x128x512.size (by revert d; decide)).set

theorem row_disjoint (d d' : Dev nD) (h : d ≠ d') : Disjoint (rowSet d) (rowSet d') :=
  Rect.unit_disjoint (0 : Fin 2) (by
    have : d.val ≠ d'.val := fun e => h (Fin.ext e)
    show 128 * d.val + 128 ≤ 128 * d'.val ∨ 128 * d'.val + 128 ≤ 128 * d.val
    omega)
theorem slot_disjoint (d d' : Dev nD) (h : d ≠ d') : Disjoint (slotSet d) (slotSet d') :=
  Rect.unit_disjoint (0 : Fin 3) (by
    have : d.val ≠ d'.val := fun e => h (Fin.ext e)
    show d.val + 1 ≤ d'.val ∨ d'.val + 1 ≤ d.val
    omega)

theorem mem_rowSet {d : Dev nD} {i : S512x512.Idx} : i ∈ rowSet d ↔ 128 * d.val ≤ (i 0).val ∧ (i 0).val < 128 * d.val + 128 := by
  unfold rowSet
  rw [Rect.mem_set_unit]
  constructor
  · intro h; exact h (0 : Fin 2)
  · intro h a
    match a with
    | ⟨0, _⟩ => exact h
    | ⟨1, _⟩ => exact ⟨Nat.zero_le _, by have := (i 1).isLt; show (i 1).val < 0 + 512; rw [Nat.zero_add]; exact this⟩
theorem mem_slotSet {d : Dev nD} {i : S4x128x512.Idx} : i ∈ slotSet d ↔ (i 0).val = d.val := by
  unfold slotSet
  rw [Rect.mem_set_unit]
  constructor
  · intro h
    have h0 := h (0 : Fin 3)
    have a1 : d.val ≤ (i 0).val := h0.1
    have a2 : (i 0).val < d.val + 1 := h0.2
    omega
  · intro h a
    match a with
    | ⟨0, _⟩ => exact ⟨h.ge, by show (i 0).val < d.val + 1; omega⟩
    | ⟨1, _⟩ => exact ⟨Nat.zero_le _, by have := (i 1).isLt; show (i 1).val < 0 + 128; rw [Nat.zero_add]; exact this⟩
    | ⟨2, _⟩ => exact ⟨Nat.zero_le _, by have := (i 2).isLt; show (i 2).val < 0 + 512; rw [Nat.zero_add]; exact this⟩

theorem rows_cover : (Finset.univ : Finset (Dev nD)).biUnion rowSet = Finset.univ := by
  ext i
  simp only [Finset.mem_biUnion, Finset.mem_univ, true_and, iff_true]
  have hi : (i 0).val < 512 := (i 0).isLt
  exact ⟨⟨(i 0).val / 128, by show _ < 4; omega⟩, mem_rowSet.mpr ⟨by show 128 * ((i 0).val / 128) ≤ _; omega, by show _ < 128 * ((i 0).val / 128) + 128; omega⟩⟩
theorem slots_cover : (Finset.univ : Finset (Dev nD)).biUnion slotSet = Finset.univ := by
  ext i
  simp only [Finset.mem_biUnion, Finset.mem_univ, true_and, iff_true]
  exact ⟨⟨(i 0).val, (i 0).isLt⟩, mem_slotSet.mpr rfl⟩

/-- A row block of the partial result, as the program spells it, covers the rows of the device at its offset. -/
theorem blk_set {off : Fin 2 → ℕ} {d : Dev nD} (e : off = ![128 * d.val, 0]) (h : ∀ a, off a + S128x512.size a ≤ S512x512.size a) (h') :
    ((Memref.whole partB : Memref sig .tc .vmem S512x512 .bf16).slice (Rect.unit (s := S512x512) off S128x512.size h) h').view.set = rowSet d := by
  subst e
  exact View.set_slice_whole partB _
/-- A slot of the landing buffer, as the program spells it, covers the slot of the device at its offset. -/
theorem slot_set {off : Fin 3 → ℕ} {d : Dev nD} (e : off = ![d.val, 0, 0]) (h : ∀ a, off a + S1x128x512.size a ≤ S4x128x512.size a) (h') (hq) :
    (((Memref.whole commB : Memref sig .tc .vmem S4x128x512 .bf16).slice (Rect.unit (s := S4x128x512) off S1x128x512.size h) h').squeeze S128x512 hq).view.set = slotSet d := by
  subst e
  exact (View.set_reshape _ _).trans (View.set_slice_whole commB _)

/-! ## Contents -/

/-- Row `r` of device `d`'s rows. -/
def atRow (d : Dev nD) (r : Fin 128) (h : Fin 512) : S512x512.Idx := ix2 ⟨128 * d.val + r.val, by have : d.val < 4 := d.isLt; omega⟩ h

variable (P : Dev nD → S512x512.Idx → Elt F .bf16)

/-- What device `c`'s landing buffer holds at the end: in the slot of each peer the rows of `c` in that peer's partial
    result, in its own slot the zeros that it stored there. -/
def comm (c : Dev nD) : S4x128x512.Idx → Elt F .bf16 := fun i =>
  if (i 0).val = c.val then k0_pay1 (F := F) (ix3 (0 : Fin 1) (i 1 : Fin 128) (i 2 : Fin 512)) else P (⟨(i 0).val, (i 0).isLt⟩ : Dev nD) (atRow c (i 1 : Fin 128) (i 2 : Fin 512))

/-- A copy of device `c`'s row block `d` into device `d`'s slot `c` leaves there what the landing buffer of `d` is to hold. -/
theorem landed {offS : Fin 2 → ℕ} {offD : Fin 3 → ℕ} {c d : Dev nD} (hcd : c ≠ d) (eS : offS = ![128 * d.val, 0]) (eD : offD = ![c.val, 0, 0])
    (hS : ∀ a, offS a + S128x512.size a ≤ S512x512.size a) (hS') (hD : ∀ a, offD a + S1x128x512.size a ≤ S4x128x512.size a) (hD') (hq)
    (fd : S4x128x512.Idx → Elt F .bf16) :
    ∀ i ∈ slotSet c, (((Memref.whole commB : Memref sig .tc .vmem S4x128x512 .bf16).slice (Rect.unit (s := S4x128x512) offD S1x128x512.size hD) hD').squeeze S128x512 hq).view.write (Elt F) fd
      (((Memref.whole partB : Memref sig .tc .vmem S512x512 .bf16).slice (Rect.unit (s := S512x512) offS S128x512.size hS) hS').view.read (Elt F) (P c)) Finset.univ i = comm P d i := by
  intro i hi
  rw [← slot_set eD hD hD' hq] at hi
  obtain ⟨x, -, rfl⟩ := Finset.mem_map.mp hi
  rw [View.write_emb_of_mem _ _ (Finset.mem_univ x)]
  subst eS eD
  have e3 : ∀ x : S128x512.Idx, Shape.reshapeEquiv (s := S1x128x512) hq.numel_eq x = ix3 (0 : Fin 1) (x 0 : Fin 128) (x 1 : Fin 512) := fun x =>
    (Shape.reshapeEquiv_cons_one (n := 2) (d := ![128, 512]) hq.numel_eq x).trans (by funext a; match a with | ⟨0, _⟩ => rfl | ⟨1, _⟩ => rfl | ⟨2, _⟩ => rfl)
  show P c _ = comm P d ((Rect.unit (s := S4x128x512) ![c.val, 0, 0] S1x128x512.size hD).emb (Shape.reshapeEquiv (s := S1x128x512) hq.numel_eq x))
  rw [e3]
  unfold comm
  rw [if_neg (by show ¬ (c.val + 1 * 0 = d.val); rw [Nat.mul_zero, Nat.add_zero]; exact fun e => hcd (Fin.ext e))]
  congr 1
  funext a
  match a with
  | ⟨0, _⟩ => refine Fin.ext ?_; show 128 * d.val + 1 * (x 0).val = 128 * d.val + (0 + 1 * (x 0).val); omega
  | ⟨1, _⟩ => refine Fin.ext ?_; show 0 + 1 * (x 1).val = 0 + 1 * (x 1).val; rfl

/-! ## The resource algebra: the pipeline library's copy beside the exchange's, whose duties are the paying devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The credit of one copy: a block of 128 rows. -/
def N : ℕ := (((Memref.whole partB : Memref sig .tc .vmem S512x512 .bf16).slice (Rect.unit (s := S512x512) ![0, 0] S128x512.size (by decide)) (fun _ => rfl)).view).dmaCredit
theorem N_pos : 0 < N := View.dmaCredit_pos _ (by decide)

/-- Device `d`'s slot `s` at contents `f`; device `d`'s row block `b` of the partial result. -/
def slotPts (d s : Dev nD) (f : S4x128x512.Idx → Elt F .bf16) : sProp 𝕄 := (d : Thread nD τ).loc commB ↦[slotSet s]{fullShare} f
def rowPts (d b : Dev nD) (f : S512x512.Idx → Elt F .bf16) : sProp 𝕄 := (d : Thread nD τ).loc partB ↦[rowSet b]{fullShare} f

/-! ## The schedule -/

/-- What device `d` pays to device `c`'s barrier: the slot of `d` that `c` writes, and that `d`'s receive cell is open. -/
def barPay (c d : Dev nD) : sProp 𝕄 := iprop((∃ f, slotPts d c f) ∗ reached ER (recvCell d c) 0)

/-- One round. The barrier of `c` is paid by every other device; the `j`-th send cell of `c` gets its row block back; the
    receive cell `s` of `c` gets the slot at what landed. The receive cell of a device for itself is never used. -/
def sched : Rounds.Schedule (GSem nD τ sig) (Dev nD) 𝕄 where
  duties g r := if r = 0 ∧ g.1.2 = .tc then
      match role g.2 with
      | .bar => Finset.univ.erase g.1.1
      | .send _ => {0}
      | .recv s => if s = g.1.1 then ∅ else {0}
      | .other => ∅
    else ∅
  unitless _ := False
  amount g _ _ := match role g.2 with
    | .bar => 1
    | _ => N
  payload g _ d := match role g.2 with
    | .bar => barPay g.1.1 d
    | .send j => rowPts g.1.1 (pe g.1.1 j) (P g.1.1)
    | .recv s => slotPts g.1.1 s (comm P g.1.1)
    | .other => iprop(emp)
  amount_pos g _ _ _ := by
    cases role g.2 with
    | bar => exact Nat.one_pos
    | _ => exact N_pos

instance sched_payload_storable (g : GSem nD τ sig) (r : ℕ) (d : Dev nD) :
    BI.Storable (upEmb : UEmb _ 𝕄) ((sched P).payload g r d) := by
  dsimp only [sched]
  unfold barPay slotPts rowPts
  split <;> infer_instance

section Sched

variable (c : Dev nD) (j : Fin 3) (s : Dev nD)

theorem duties_bar : (sched P).duties (barCell c) 0 = Finset.univ.erase c := by dsimp only [sched]; exact if_pos ⟨rfl, rfl⟩
theorem duties_send : (sched P).duties (sendCell c j) 0 = {0} := by
  dsimp only [sched]; rw [if_pos ⟨rfl, rfl⟩, role_send]
theorem duties_recv (h : s ≠ c) : (sched P).duties (recvCell c s) 0 = {0} := by
  dsimp only [sched]; rw [if_pos ⟨rfl, rfl⟩, role_recv]; exact if_neg h
theorem duties_own : ∀ r, 0 ≤ r → (sched P).duties (recvCell c c) r = ∅ := fun r _ => by
  dsimp only [sched]; rw [role_recv]; split
  · exact if_pos rfl
  · rfl
theorem duties_later (g : GSem nD τ sig) : ∀ r, 1 ≤ r → (sched P).duties g r = ∅ :=
  fun r hr => by dsimp only [sched]; rw [if_neg (fun h => by omega)]

theorem amount_bar (d : Dev nD) : (sched P).amount (barCell c) 0 d = 1 := rfl
theorem amount_send (d : Dev nD) : (sched P).amount (sendCell c j) 0 d = N := by dsimp only [sched]; rw [role_send]
theorem amount_recv (d : Dev nD) : (sched P).amount (recvCell c s) 0 d = N := by dsimp only [sched]; rw [role_recv]

theorem expect_bar : (sched P).expect (barCell c) 0 = 3 := by
  unfold Schedule.expect Schedule.amountOf; rw [duties_bar, Finset.sum_congr rfl (fun d _ => amount_bar P c d)]
  revert c; decide
theorem expect_send : (sched P).expect (sendCell c j) 0 = N := by
  unfold Schedule.expect Schedule.amountOf; rw [duties_send, Finset.sum_singleton, amount_send]
theorem expect_recv (h : s ≠ c) : (sched P).expect (recvCell c s) 0 = N := by
  unfold Schedule.expect Schedule.amountOf; rw [duties_recv P c s h, Finset.sum_singleton, amount_recv]

theorem payload_bar (d : Dev nD) : (sched P).payload (barCell c) 0 d = barPay c d := rfl
theorem payload_send (d : Dev nD) : (sched P).payload (sendCell c j) 0 d = rowPts c (pe c j) (P c) := by dsimp only [sched]; rw [role_send]
theorem payload_recv (d : Dev nD) : (sched P).payload (recvCell c s) 0 d = slotPts c s (comm P c) := by dsimp only [sched]; rw [role_recv]

theorem rest_bar : bigSep ((sched P).duties (barCell c) 0 \ ∅) (fun d => (sched P).payload (barCell c) 0 d)
    = iprop(barPay c (pe c 0) ∗ barPay c (pe c 1) ∗ barPay c (pe c 2)) := by
  rw [Finset.sdiff_empty, duties_bar, erase_eq, bigSep_insert (by revert c; decide), bigSep_insert (by revert c; decide), bigSep_singleton]
  rfl
theorem rest_send : bigSep ((sched P).duties (sendCell c j) 0 \ ∅) (fun d => (sched P).payload (sendCell c j) 0 d) = rowPts c (pe c j) (P c) := by
  rw [Finset.sdiff_empty, duties_send, bigSep_singleton, payload_send]
theorem rest_recv (h : s ≠ c) : bigSep ((sched P).duties (recvCell c s) 0 \ ∅) (fun d => (sched P).payload (recvCell c s) 0 d) = slotPts c s (comm P c) := by
  rw [Finset.sdiff_empty, duties_recv P c s h, bigSep_singleton, payload_recv]

end Sched

/-! ## What a device owes, and the levels -/

/-- The receive credits of the peers, which the three copies pay. -/
def Orecv (c : Dev nD) : CellTallies nD τ sig Unit :=
  tallyAt (recvCell (pe c 2) c) () N + tallyAt (recvCell (pe c 1) c) () N + tallyAt (recvCell (pe c 0) c) () N
/-- At launch also one unit on each peer's barrier. -/
def O₀ (c : Dev nD) : CellTallies nD τ sig Unit :=
  Orecv c + tallyAt (barCell (pe c 2)) () 1 + tallyAt (barCell (pe c 1)) () 1 + tallyAt (barCell (pe c 0)) () 1

def L (g : GSem nD τ sig) : Finset Unit := if g.1.2 = .tc then {()} else ∅
/-- Barriers at 1, receive cells at 2, the rest at 0. -/
def lv (g : GSem nD τ sig) (_ : Unit) : ℕ := match role g.2 with
  | .bar => 1
  | .recv _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c s : Dev nD) : lv (recvCell c s) () = 2 := by unfold lv; rw [role_recv]

theorem Orecv_pos {c : Dev nD} {g : GSem nD τ sig} {u : Unit} (h : 0 < Orecv c g u) : ∃ j, g = recvCell (pe c j) c := by
  by_contra hn
  push Not at hn
  unfold Orecv at h
  simp only [Pi.add_apply, Finsupp.add_apply, tallyAt_apply, hn, false_and, if_false] at h
  exact absurd h (Nat.lt_irrefl 0)
theorem O₀_pos {c : Dev nD} {g : GSem nD τ sig} {u : Unit} (h : 0 < O₀ c g u) : (∃ j, g = recvCell (pe c j) c) ∨ ∃ j, g = barCell (pe c j) := by
  by_contra hn
  push Not at hn
  obtain ⟨h1, h2⟩ := hn
  unfold O₀ Orecv at h
  simp only [Pi.add_apply, Finsupp.add_apply, tallyAt_apply, h1, h2, false_and, if_false] at h
  exact absurd h (Nat.lt_irrefl 0)

/-- A device may wait on its barrier while it owes the receive credits: those sit higher. -/
theorem mayWait_bar (c : Dev nD) : (levAts L lv : sProp 𝕄) ⊢ MayWait (c : Thread nD τ) (.reg barS) () (Orecv c) :=
  MayOwe.of_cut (L := L) (lev := lv) 1 (fun p hp => by rw [Finset.mem_singleton.mp hp, L_tc]; exact Finset.mem_singleton_self _)
    (fun g u hg => by obtain ⟨j, rfl⟩ := Orecv_pos hg; rw [L_tc]; exact Finset.mem_singleton_self _)
    (fun p hp => by rw [Finset.mem_singleton.mp hp]; exact le_refl 1)
    (fun g u hg => by obtain ⟨j, rfl⟩ := Orecv_pos hg; rw [lv_recv]; decide)

/-! ## The ghost state -/

/-- The invariants that device `c` opens. -/
def invs (K : GSem nD τ sig → ℕ) (c : Dev nD) : sProp 𝕄 :=
  iprop(cellInv ER (sched P) (K (barCell c)) (barCell c)
    ∗ (∀ j : Fin 3, cellInv ER (sched P) (K (sendCell c j)) (sendCell c j))
    ∗ (∀ s : Dev nD, cellInv ER (sched P) (K (recvCell c s)) (recvCell c s))
    ∗ (∀ j : Fin 3, cellInv ER (sched P) (K (barCell (pe c j))) (barCell (pe c j)))
    ∗ (∀ j : Fin 3, cellInv ER (sched P) (K (recvCell (pe c j) c)) (recvCell (pe c j) c)))

instance invs_persistent (K : GSem nD τ sig → ℕ) (c : Dev nD) : BI.Persistent (invs P K c) := by unfold invs; infer_instance

end Cert.KernelIdeal.Exchange

end
-- ==== Proof.Steps.lean ====
/- One rule for each kind of step that the kernel takes in the exchange: the signal to a peer's barrier, the wait on the
   own barrier, the copy of a row block to a peer, the wait for a peer's row block, the wait for an own copy. -/
module

public import proofs.«01_k».proof.Proof.Protocol

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Cert.KernelIdeal Cert.KernelIdeal.Gen

variable {F : FTy → Type} [FloatOps F]

local notation "𝕄" => MT nD τ sig Unit (Elt F) ℕ UU ℕ

variable (P : Dev nD → S512x512.Idx → Elt F .bf16) (K : GSem nD τ sig → ℕ)

abbrev 𝒱₀ : Variants := Variants.none

/-! ## The invariants one by one -/

theorem inv_bar (c : Dev nD) : invs P K c ⊢ (cellInv ER (sched P) (K (barCell c)) (barCell c) : sProp 𝕄) := by
  unfold invs; exact sep_elim_left
theorem inv_send (c : Dev nD) (j : Fin 3) : invs P K c ⊢ (cellInv ER (sched P) (K (sendCell c j)) (sendCell c j) : sProp 𝕄) := by
  unfold invs; exact sep_elim_right.trans (sep_elim_left.trans (forall_elim j))
theorem inv_recv (c s : Dev nD) : invs P K c ⊢ (cellInv ER (sched P) (K (recvCell c s)) (recvCell c s) : sProp 𝕄) := by
  unfold invs; exact sep_elim_right.trans (sep_elim_right.trans (sep_elim_left.trans (forall_elim s)))
theorem inv_barPeer (c : Dev nD) (j : Fin 3) :
    invs P K c ⊢ (cellInv ER (sched P) (K (barCell (pe c j))) (barCell (pe c j)) : sProp 𝕄) := by
  unfold invs; exact sep_elim_right.trans (sep_elim_right.trans (sep_elim_right.trans (sep_elim_left.trans (forall_elim j))))
theorem inv_recvPeer (c : Dev nD) (j : Fin 3) :
    invs P K c ⊢ (cellInv ER (sched P) (K (recvCell (pe c j) c)) (recvCell (pe c j) c) : sProp 𝕄) := by
  unfold invs; exact sep_elim_right.trans (sep_elim_right.trans (sep_elim_right.trans (sep_elim_right.trans (forall_elim j))))

/-! ## The steps -/

section Steps

/-- The signal to the `j`-th peer: it gets the slot of `c` that it will write. -/
theorem sig_rule (c n : Dev nD) (j : Fin 3) (hn : n = pe c j) (O : CellTallies nD τ sig Unit) (W : Waits sig Unit) {k' : ℕ} (hk : k' = 1)
    {α : Type} {Q : α → sProp 𝕄} {k : PUnit → Prog (TpuEff nD τ sig (Elt F) Λ₀ .tc) α} :
    iprop(invs P K c ∗ owes (c : Thread nD τ) (O + tallyAt (barCell (pe c j)) () 1) W ∗ dutyTok ER (barCell (pe c j)) 0 c
        ∗ (∃ f, slotPts c (pe c j) f) ∗ reached ER (recvCell c (pe c j)) 0 ∗ reached ER (barCell (pe c j)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn hk
  iintro ⟨#HI, HO, Ht, Hs, #Hr, #Hb⟩
  iapply (Rounds.wp_signal 𝒱₀ ER (sched P) (c : Thread nD τ) none (dst := (pe c j : Thread nD τ)) (sem := barS) (r := 0) (d := c) (κ := K (barCell (pe c j)))
      (by rw [duties_bar]; exact Finset.mem_erase.mpr ⟨ne_pe c j, Finset.mem_univ _⟩) (amount_bar P (pe c j) c) () O rfl)
  isplitr; · iapply (inv_barPeer P K c j); iexact HI
  isplitl [HO]; · iexact HO
  isplitl [Ht]; · iexact Ht
  isplitl [Hs]
  · rw [payload_bar]; unfold barPay
    isplitl [Hs]; · iexact Hs
    iexact Hr
  iexact Hb

/-- The wait on the own barrier: each peer's slot for `c`, and that the peer's receive cell is open. -/
theorem bar_rule (c : Dev nD) (W : Waits sig Unit) {k' : ℕ} (hk : k' = 3)
    {α : Type} {Q : α → sProp 𝕄} {k : PUnit → Prog (TpuEff nD τ sig (Elt F) Λ₀ .tc) α} :
    iprop(invs P K c ∗ cred (tallyAt (barCell c) () 3) ∗ owes (c : Thread nD τ) (Orecv c) W ∗ levAts L lv ∗ atPos ER (barCell c) 0 ∅ 0)
      ⊢ iprop(((owes (c : Thread nD τ) (Orecv c) (insert (SemLoc.reg barS, ()) W) ∗ atPos ER (barCell c) (0 + 1) ∅ 0
              ∗ barPay c (pe c 0) ∗ barPay c (pe c 1) ∗ barPay c (pe c 2))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk
  iintro ⟨#HI, Hc, HO, #Hlev, Hat⟩ Hk
  iapply (Rounds.wp_wait_rest_token 𝒱₀ ER (sched P) (c : Thread nD τ) none (κ := K (barCell c))
      (wpE_semWait_eq 𝒱₀ (c : Thread nD τ) none Set.univ) (Set.mem_univ _) () (O := Orecv c) (W := W) (R := 0) (m := 0) (T := ∅)
      ((Nat.zero_add 3).trans (expect_bar P c).symm)) $$ [Hc HO Hat]
  · isplitr; · iapply (inv_bar P K c); iexact HI
    isplitl [Hc]; · iexact Hc
    isplitl [HO]; · iexact HO
    isplitr; · iapply (mayWait_bar c); iexact Hlev
    iexact Hat
  iintro ⟨HO, Hat, -, Hpay⟩
  iapply Hk
  isplitl [HO]; · iexact HO
  isplitl [Hat]; · iexact Hat
  iapply (Entails.of_eq (rest_bar P c)) $$ Hpay

/-- The copy of the `j`-th peer's row block into the slot of `c` there. -/
theorem copy_rule (c n : Dev nD) (j : Fin 3) (hn : n = pe c j) {offS : Fin 2 → ℕ} {offD : Fin 3 → ℕ}
    (eS : offS = ![128 * (pe c j).val, 0]) (eD : offD = ![c.val, 0, 0])
    {hS : ∀ a, offS a + S128x512.size a ≤ S512x512.size a} {hS'} {hD : ∀ a, offD a + S1x128x512.size a ≤ S4x128x512.size a} {hD'} {hq}
    {sS sV : DmaSem sig} (hsS : sS = sendS j) (hsV : sV = recvS c) (fd : S4x128x512.Idx → Elt F .bf16)
    (O : CellTallies nD τ sig Unit) (W : Waits sig Unit)
    {hsc : (((Memref.whole commB : Memref sig .tc .vmem S4x128x512 .bf16).slice (Rect.unit (s := S4x128x512) offD S1x128x512.size hD) hD').squeeze S128x512 hq : Memref sig (Dev.tc n : Thread nD τ).2.kind .vmem S128x512 .bf16).view.ref.isScScratch = false}
    {hsrc : ((Memref.whole partB : Memref sig .tc .vmem S512x512 .bf16).slice (Rect.unit (s := S512x512) offS S128x512.size hS) hS').view.WordExact}
    {hdst : (((Memref.whole commB : Memref sig .tc .vmem S4x128x512 .bf16).slice (Rect.unit (s := S4x128x512) offD S1x128x512.size hD) hD').squeeze S128x512 hq).view.WordExact}
    {hsem : DmaTarget.Typed .vmem (.dma sV) (.remote (Dev.tc n : Thread nD τ) (((Memref.whole commB : Memref sig .tc .vmem S4x128x512 .bf16).slice (Rect.unit (s := S4x128x512) offD S1x128x512.size hD) hD').squeeze S128x512 hq) (.dma sS) hsc)}
    {α : Type} {Q : α → sProp 𝕄} {k : PUnit → Prog (TpuEff nD τ sig (Elt F) Λ₀ .tc) α} :
    iprop(invs P K c ∗ rowPts c (pe c j) (P c) ∗ slotPts (pe c j) c fd
        ∗ owes (c : Thread nD τ) (O + tallyAt (recvCell (pe c j) c) () N) W
        ∗ dutyTok ER (sendCell c j) 0 0 ∗ reached ER (sendCell c j) 0 ∗ dutyTok ER (recvCell (pe c j) c) 0 0 ∗ reached ER (recvCell (pe c j) c) 0)
      ⊢ iprop(((cred (tallyAt (sendCell c j) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma ((Memref.whole partB : Memref sig .tc .vmem S512x512 .bf16).slice (Rect.unit (s := S512x512) offS S128x512.size hS) hS')
              (.remote (Dev.tc n : Thread nD τ) (((Memref.whole commB : Memref sig .tc .vmem S4x128x512 .bf16).slice (Rect.unit (s := S4x128x512) offD S1x128x512.size hD) hD').squeeze S128x512 hq) (.dma sS) hsc)
              (.dma sV) hsrc hdst hsem) k) Q) := by
  subst hn hsS hsV
  have e1 := blk_set eS hS hS'
  have e2 := slot_set eD hD hD' hq
  unfold rowPts slotPts
  rw [← e1, ← e2]
  iintro ⟨#HI, Hs, Hd, HO, HtS, #HrS, HtV, #HrV⟩
  iapply (Rounds.wp_send_pointsTo 𝒱₀ ER (sched P) (c : Thread nD τ) none (c' := (pe c j : Thread nD τ))
      (src := (Memref.whole partB : Memref sig .tc .vmem S512x512 .bf16).slice (Rect.unit (s := S512x512) offS S128x512.size hS) hS')
      (dst := ((Memref.whole commB : Memref sig .tc .vmem S4x128x512 .bf16).slice (Rect.unit (s := S4x128x512) offD S1x128x512.size hD) hD').squeeze S128x512 hq)
      (sS := .dma (sendS j)) (sem := .dma (recvS c)) (q := fullShare) (fs := P c) (κ₁ := K (sendCell c j)) (κ₂ := K (recvCell (pe c j) c))
      (r₁ := 0) (r₂ := 0) (d₁ := 0) (d₂ := 0) (fd := fd)
      (by rw [duties_send]; exact Finset.mem_singleton_self _) (by rw [duties_recv P (pe c j) c (ne_pe c j)]; exact Finset.mem_singleton_self _)
      () () N rfl (amount_send P c j 0) (amount_recv P (pe c j) c 0) O rfl (W := W)
      (by rw [payload_send]; unfold rowPts; rw [← e1])
      (by
        rw [payload_recv]; unfold slotPts; rw [← e2]
        exact Entails.of_eq (pointsTo_congr fun i hi => landed P (ne_pe c j) eS eD hS hS' hD hD' hq fd i (e2 ▸ hi))))
  isplitr; · iapply (inv_send P K c j); iexact HI
  isplitr; · iapply (inv_recvPeer P K c j); iexact HI
  isplitl [Hs]; · iexact Hs
  isplitl [Hd]; · iexact Hd
  isplitl [HO]; · iexact HO
  isplitl [HtS]; · iexact HtS
  isplitr; · iexact HrS
  isplitl [HtV]; · iexact HtV
  iexact HrV

/-- Every block of 128 rows has the same credit. -/
theorem credit_eq (m : Memref sig .tc .vmem S128x512 .bf16) : m.view.dmaCredit = N := rfl

/-- The wait for the `j`-th peer's row block: the slot comes back at what landed. -/
theorem recv_rule (c : Dev nD) (j : Fin 3) {sV : DmaSem sig} (hsV : sV = recvS (pe c j)) (W : Waits sig Unit)
    {src dst : Memref sig .tc .vmem S128x512 .bf16} {hsrc : src.view.WordExact} {hdst : dst.view.WordExact}
    {α : Type} {Q : α → sProp 𝕄} {k : PUnit → Prog (TpuEff nD τ sig (Elt F) Λ₀ .tc) α} :
    iprop(invs P K c ∗ cred (tallyAt (recvCell c (pe c j)) () N) ∗ owes (c : Thread nD τ) 0 W ∗ atPos ER (recvCell c (pe c j)) 0 ∅ 0)
      ⊢ iprop(((owes (c : Thread nD τ) 0 (insert (SemLoc.dma (recvS (pe c j)), ()) W) ∗ atPos ER (recvCell c (pe c j)) (0 + 1) ∅ 0
              ∗ slotPts c (pe c j) (comm P c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sV src dst hsrc hdst) k) Q) := by
  subst hsV
  have hN := credit_eq dst
  iintro ⟨#HI, Hc, HO, Hat⟩ Hk
  iapply (Rounds.wp_wait_rest_token 𝒱₀ ER (sched P) (c : Thread nD τ) none (κ := K (recvCell c (pe c j)))
      (wpE_waitDma2_eq 𝒱₀ (c : Thread nD τ) none Set.univ) (Set.mem_univ _) () (O := 0) (W := W) (R := 0) (m := 0) (T := ∅)
      ((Nat.zero_add _).trans (hN.trans (expect_recv P c (pe c j) (pe_ne c j)).symm))) $$ [Hc HO Hat]
  · isplitr; · iapply (inv_recv P K c (pe c j)); iexact HI
    isplitl [Hc]; · rw [hN]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_recv P c (pe c j) (pe_ne c j))) $$ Hpay

/-- The wait for the own `j`-th copy: the row block comes back. -/
theorem send_rule (c : Dev nD) (j : Fin 3) {sS : DmaSem sig} (hsS : sS = sendS j) (W : Waits sig Unit)
    {src dst : Memref sig .tc .vmem S128x512 .bf16} {hsrc : src.view.WordExact} {hdst : dst.view.WordExact}
    {α : Type} {Q : α → sProp 𝕄} {k : PUnit → Prog (TpuEff nD τ sig (Elt F) Λ₀ .tc) α} :
    iprop(invs P K c ∗ cred (tallyAt (sendCell c j) () N) ∗ owes (c : Thread nD τ) 0 W ∗ atPos ER (sendCell c j) 0 ∅ 0)
      ⊢ iprop(((owes (c : Thread nD τ) 0 (insert (SemLoc.dma (sendS j), ()) W) ∗ atPos ER (sendCell c j) (0 + 1) ∅ 0
              ∗ rowPts c (pe c j) (P c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  subst hsS
  have hN := credit_eq dst
  iintro ⟨#HI, Hc, HO, Hat⟩ Hk
  iapply (Rounds.wp_wait_rest_token 𝒱₀ ER (sched P) (c : Thread nD τ) none (κ := K (sendCell c j))
      (wpE_waitDma2_eq 𝒱₀ (c : Thread nD τ) none Set.univ) (Set.mem_univ _) () (O := 0) (W := W) (R := 0) (m := 0) (T := ∅)
      ((Nat.zero_add _).trans (hN.trans (expect_send P c j).symm))) $$ [Hc HO Hat]
  · isplitr; · iapply (inv_send P K c j); iexact HI
    isplitl [Hc]; · rw [hN]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_send P c j)) $$ Hpay

end Steps

/-! ## The two buffers whole and in parts -/

theorem bigSep_dev (c : Dev nD) (Φ : Dev nD → sProp 𝕄) :
    bigSep Finset.univ Φ = iprop(Φ c ∗ Φ (pe c 0) ∗ Φ (pe c 1) ∗ Φ (pe c 2)) := by
  rw [univ_eq c, bigSep_insert (by revert c; decide), bigSep_insert (by revert c; decide), bigSep_insert (by revert c; decide), bigSep_singleton]
  rfl

theorem comm_parts (c : Dev nD) (f : S4x128x512.Idx → Elt F .bf16) :
    ((c : Thread nD τ).loc commB ↦{fullShare} f : sProp 𝕄)
      = iprop(slotPts c c f ∗ slotPts c (pe c 0) f ∗ slotPts c (pe c 1) f ∗ slotPts c (pe c 2) f) := by
  rw [← bigSep_dev c (fun s => slotPts c s f)]
  have h := pointsTo_biUnion (Val := Elt F) (Ix := Unit) (Name := ℕ) (U := UU) (Lvl := ℕ) (ℓ := (c : Thread nD τ).loc commB) (q := fullShare) (f := f) Finset.univ slotSet (fun a _ b _ h => slot_disjoint a b h)
  rw [slots_cover] at h
  exact h
theorem part_parts (c : Dev nD) (f : S512x512.Idx → Elt F .bf16) :
    ((c : Thread nD τ).loc partB ↦{fullShare} f : sProp 𝕄)
      = iprop(rowPts c c f ∗ rowPts c (pe c 0) f ∗ rowPts c (pe c 1) f ∗ rowPts c (pe c 2) f) := by
  rw [← bigSep_dev c (fun s => rowPts c s f)]
  have h := pointsTo_biUnion (Val := Elt F) (Ix := Unit) (Name := ℕ) (U := UU) (Lvl := ℕ) (ℓ := (c : Thread nD τ).loc partB) (q := fullShare) (f := f) Finset.univ rowSet (fun a _ b _ h => row_disjoint a b h)
  rw [rows_cover] at h
  exact h

/-! ## Closing the cells -/

theorem close (g : GSem nD τ sig) :
    iprop(cellInv ER (sched P) (K g) g ∗ atPos ER g (0 + 1) ∅ 0) ⊢ (|={Set.univ}=> semVal g 0 : sProp 𝕄) :=
  Rounds.cell_close ER (sched P) (Set.mem_univ (K g)) id (duties_later P g)
theorem close_own (c : Dev nD) :
    iprop(cellInv ER (sched P) (K (recvCell c c)) (recvCell c c) ∗ atPos ER (recvCell c c) 0 ∅ 0) ⊢ (|={Set.univ}=> semVal (recvCell c c) 0 : sProp 𝕄) :=
  Rounds.cell_close ER (sched P) (Set.mem_univ (K _)) id (duties_own P c)

end Cert.KernelIdeal.Exchange

end
-- ==== Proof.Parts.lean ====
/- The run of the kernel's body on one device: from the buffers it is entered with and its share of the exchange to the
   result block. -/
module

public import proofs.«01_k».proof.Proof.Steps

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Cert.KernelIdeal Cert.KernelIdeal.Gen

variable {F : FTy → Type} [FloatOps F]

local notation "𝕄" => MT nD τ sig Unit (Elt F) ℕ UU ℕ

variable (P : Dev nD → S512x512.Idx → Elt F .bf16) (K : GSem nD τ sig → ℕ)

/-! ## The buffers -/

abbrev xM : Memref sig .tc .vmem S512x256 .f32 := Memref.whole cc0_stg0_0
abbrev rM : Memref sig .tc .vmem S256x8 .f32 := Memref.whole cc0_stg1_0
abbrev iM : Memref sig .tc .vmem S512x1 .i32 := Memref.whole cc0_stg2_0
abbrev eM : Memref sig .tc .vmem S512x512 .bf16 := Memref.whole cc0_stg3_0
abbrev wM : Memref sig .tc .vmem S256x512 .f32 := Memref.whole cc0_stg4_0
abbrev oM : Memref sig .tc .vmem S128x512 .bf16 := Memref.whole cc0_stg5_0
abbrev aM : Memref sig .tc .vmem S512x512 .bf16 := Memref.whole cc0_scratch0
abbrev pM : Memref sig .tc .vmem S512x512 .bf16 := Memref.whole partB
abbrev cM : Memref sig .tc .vmem S4x128x512 .bf16 := Memref.whole commB

/-- A whole buffer of device `c`. -/
abbrev pt (c : Dev nD) (b : Ref sig .tc) (f : b.ty.Contents (Elt F)) : sProp 𝕄 := (c : Thread nD τ).loc b ↦{fullShare} f

/-! ## The values -/

/-- The device's number as the program computes it. -/
def myW (c : Dev nD) : BitVec 32 := Scalar.remsi (Scalar.divsi (Dev.word c) 1#32) 4#32

abbrev rLeft : Rect S512x512 := Rect.unit (s := S512x512) ![0, 0] S512x256.size inb_S512x512_S512x256_0_0
abbrev rRight : Rect S512x512 := Rect.unit (s := S512x512) ![0, 256] S512x256.size inb_S512x512_S512x256_0_256

/-- The activations that meet the device's two experts, side by side: columns `0..255` for the first, `256..511` for the second. -/
def actOf (w : BitVec 32) (x : FVec F S512x256 .f32) (r : FVec F S256x8 .f32) (idx : IVec S512x1 32) : S512x512.Idx → Elt F .bf16 := fun i =>
  if h : (i 1).val < 256 then k0_pay6 w (k0_pay2 x) (k0_pay3 (F := F) idx) (k0_pay4 x r idx) (ix2 (i 0 : Fin 512) (⟨(i 1).val, h⟩ : Fin 256))
  else k0_pay7 w (k0_pay2 x) (k0_pay3 (F := F) idx) (k0_pay4 x r idx)
    (ix2 (i 0 : Fin 512) (⟨(i 1).val - 256, by have : (i 1).val < 512 := (i 1).isLt; omega⟩ : Fin 256))

/-- The two stores of the activations leave `actOf`, whatever was there before. -/
theorem act_stored (w : BitVec 32) (x : FVec F S512x256 .f32) (r : FVec F S256x8 .f32) (idx : IVec S512x1 32) (f : S512x512.Idx → Elt F .bf16) :
    (aM.access rRight).write (Elt F) ((aM.access rLeft).write (Elt F) f (k0_pay6 w (k0_pay2 x) (k0_pay3 (F := F) idx) (k0_pay4 x r idx)) Finset.univ)
      (k0_pay7 w (k0_pay2 x) (k0_pay3 (F := F) idx) (k0_pay4 x r idx)) Finset.univ = actOf w x r idx := by
  refine funext fun i => ?_
  have hi : (i 1).val < 512 := (i 1).isLt
  by_cases h : (i 1).val < 256
  · have hn : i ∉ (aM.access rRight).setOn Finset.univ := by
      rw [View.setOn_univ]
      intro hm
      have hm' : i ∈ rRight.set := (View.set_slice_whole cc0_scratch0 rRight) ▸ hm
      have h1 := (Rect.mem_set_unit.mp hm') (1 : Fin 2)
      have h2 : 256 ≤ (i 1).val := h1.1
      omega
    rw [View.write_of_not_mem _ _ _ hn]
    have e : i = (aM.access rLeft).emb (ix2 (i 0 : Fin 512) (⟨(i 1).val, h⟩ : Fin 256)) := by
      funext a
      match a with
      | ⟨0, _⟩ => refine Fin.ext ?_; show (i 0).val = 0 + 1 * (i 0).val; omega
      | ⟨1, _⟩ => refine Fin.ext ?_; show (i 1).val = 0 + 1 * (i 1).val; omega
    unfold actOf
    rw [dif_pos h]
    conv_lhs => rw [e]
    rw [View.write_emb_of_mem _ _ (Finset.mem_univ _)]
    rfl
  · have e : i = (aM.access rRight).emb (ix2 (i 0 : Fin 512) (⟨(i 1).val - 256, by omega⟩ : Fin 256)) := by
      funext a
      match a with
      | ⟨0, _⟩ => refine Fin.ext ?_; show (i 0).val = 0 + 1 * (i 0).val; omega
      | ⟨1, _⟩ => refine Fin.ext ?_; show (i 1).val = 256 + 1 * ((i 1).val - 256); omega
    unfold actOf
    rw [dif_neg h]
    conv_lhs => rw [e]
    rw [View.write_emb_of_mem _ _ (Finset.mem_univ _)]
    rfl

/-- The device's partial result: activations by its two experts' weights. -/
def partOf (c : Dev nD) (x : FVec F S512x256 .f32) (r : FVec F S256x8 .f32) (idx : IVec S512x1 32) (ew : FVec F S512x512 .bf16) : S512x512.Idx → Elt F .bf16 :=
  k0_pay8 (actOf (myW c) x r idx) ew

/-- The slot `s` of the landing buffer as the program loads it. -/
def slotVal (c : Dev nD) (off : Fin 3 → ℕ) (h : ∀ a, off a + S1x128x512.size a ≤ S4x128x512.size a) : FVec F S1x128x512 .bf16 :=
  cM.view.readAt (Elt F) (Rect.unit (s := S4x128x512) off S1x128x512.size h).toLoadRect (comm P c)
/-- The device's own rows of its partial result. -/
def ownVal (c : Dev nD) : FVec F S128x512 .bf16 :=
  pM.view.readAt (Elt F) (Rect.unit (s := S512x512) (k0_off6 c) S128x512.size (k0_off6_inb c)).toLoadRect (P c)
/-- The device's own rows of the input. -/
def xVal (c : Dev nD) (x : FVec F S512x256 .f32) : FVec F S128x256 .f32 :=
  xM.view.readAt (Elt F) (Rect.unit (s := S512x256) (k0_off5 c) S128x256.size (k0_off5_inb c)).toLoadRect x

/-- The result block. -/
def outOf (c : Dev nD) (x : FVec F S512x256 .f32) (sh : FVec F S256x512 .f32) : FVec F S128x512 .bf16 :=
  k0_pay12 (k0_pay10 (k0_pay9 (xVal c x)) sh) (k0_pay11 (ownVal P c))
    (slotVal P c ![0, 0, 0] inb_S4x128x512_S1x128x512_0_0_0) (slotVal P c ![1, 0, 0] inb_S4x128x512_S1x128x512_1_0_0)
    (slotVal P c ![2, 0, 0] inb_S4x128x512_S1x128x512_2_0_0) (slotVal P c ![3, 0, 0] inb_S4x128x512_S1x128x512_3_0_0)

theorem unit_set {s : Shape} {off off' sz : Fin s.rank → ℕ} (e : off = off') (h : ∀ a, off a + sz a ≤ s.size a) (h' : ∀ a, off' a + sz a ≤ s.size a) :
    (Rect.unit (s := s) off sz h).set = (Rect.unit (s := s) off' sz h').set := by
  subst e; rfl

theorem hz2 : (![0, 0] : Fin 2 → Nat) = fun _ => 0 := funext fun a => by fin_cases a <;> rfl

/-- The device's own slot after its store holds what the landing buffer is to hold there. -/
theorem own_stored (c : Dev nD) (f : S4x128x512.Idx → Elt F .bf16) :
    ∀ i ∈ slotSet c, (cM.access (Rect.unit (s := S4x128x512) (k0_off1 c) S1x128x512.size (k0_off1_inb c))).write (Elt F) f (k0_pay1 (F := F)) Finset.univ i = comm P c i := by
  intro i hi
  have hc := mem_slotSet.mp hi
  have e : i = (cM.access (Rect.unit (s := S4x128x512) (k0_off1 c) S1x128x512.size (k0_off1_inb c))).emb (ix3 (0 : Fin 1) (i 1 : Fin 128) (i 2 : Fin 512)) := by
    have h1 := k0_off1_eq c
    funext a
    match a with
    | ⟨0, _⟩ => refine Fin.ext ?_; show (i 0).val = k0_off1 c 0 + 1 * 0; rw [h1]; show (i 0).val = c.val + 0; omega
    | ⟨1, _⟩ => refine Fin.ext ?_; show (i 1).val = k0_off1 c 1 + 1 * (i 1).val; rw [h1]; show (i 1).val = 0 + 1 * (i 1).val; omega
    | ⟨2, _⟩ => refine Fin.ext ?_; show (i 2).val = k0_off1 c 2 + 1 * (i 2).val; rw [h1]; show (i 2).val = 0 + 1 * (i 2).val; omega
  unfold comm
  rw [if_pos hc]
  conv_lhs => rw [e]
  rw [View.write_emb_of_mem _ _ (Finset.mem_univ _)]
  rfl

/-! ## The parts of the body -/

/-- What a device knows throughout: the rounds that are open. -/
def opens (c : Dev nD) : sProp 𝕄 :=
  iprop((∀ j : Fin 3, reached ER (barCell (pe c j)) 0) ∗ (∀ j : Fin 3, reached ER (sendCell c j) 0) ∗ (∀ s : Dev nD, reached ER (recvCell c s) 0))
instance opens_persistent (c : Dev nD) : BI.Persistent (opens (F := F) c) := by unfold opens; infer_instance
theorem opens_bar (c : Dev nD) (j : Fin 3) : opens c ⊢ (reached ER (barCell (pe c j)) 0 : sProp 𝕄) := by
  unfold opens; exact sep_elim_left.trans (forall_elim j)
theorem opens_send (c : Dev nD) (j : Fin 3) : opens c ⊢ (reached ER (sendCell c j) 0 : sProp 𝕄) := by
  unfold opens; exact sep_elim_right.trans (sep_elim_left.trans (forall_elim j))
theorem opens_recv (c s : Dev nD) : opens c ⊢ (reached ER (recvCell c s) 0 : sProp 𝕄) := by
  unfold opens; exact sep_elim_right.trans (sep_elim_right.trans (forall_elim s))

/-- The first part only computes the peers. -/
theorem part1_run (c : Dev nD) {A : sProp 𝕄} (Kt : (Σ' (d0 : Dev nD) (v2 : BitVec 32) (v13 : BitVec 32) (v24 : BitVec 32), BitVec 32) → sProp 𝕄)
    (h : ∀ v13 v24 v35, A ⊢ Kt ⟨c, myW c, v13, v24, v35⟩) : A ⊢ wp frame (wpE (defs₀ (F := F)) 𝒱₀ (c : Thread nD τ) none) Set.univ (k0_part1 xM (Memref.isWhole_whole _) rM (Memref.isWhole_whole _) iM (Memref.isWhole_whole _) eM (Memref.isWhole_whole _) wM (Memref.isWhole_whole _) oM (Memref.isWhole_whole _) aM (Memref.isWhole_whole _) pM (Memref.isWhole_whole _) cM (Memref.isWhole_whole _) cc0_scratch3 cc0_scratch4) Kt := by
  rw [k0_part1_eq_skeleton]; unfold k0_part1_skel
  simp only [Prog.lift, Prog.bind_op, Prog.bind_ret, Prog.pure_eq_ret, wp_deviceId]
  rw [wp_ret, show Scalar.remsi (Scalar.divsi (Dev.word c) 1#32) 4#32 = myW c from rfl]
  iintro H
  imodintro
  iapply (h _ _ _)
  iexact H

/-- The second part: the three signals, the zeros in the own slot, the loads of the inputs. -/
theorem part2_run (c : Dev nD) (W : Waits sig Unit) (x : FVec F S512x256 .f32) (r : FVec F S256x8 .f32) (idx : IVec S512x1 32) (v2 v13 v24 v35 : BitVec 32)
    (Kt : (Σ' (v36 : Sems sig S_) (v49 : FVec F S512x256 .f32) (v63 : IVec S512x1 32), FVec F S512x8 .f32) → sProp 𝕄) :
    iprop((invs P K c ∗ opens c ∗ owes (c : Thread nD τ) (O₀ c) W
        ∗ dutyTok ER (barCell (pe c 0)) 0 c ∗ dutyTok ER (barCell (pe c 1)) 0 c ∗ dutyTok ER (barCell (pe c 2)) 0 c
        ∗ (∃ f, pt c commB f) ∗ pt c cc0_stg0_0 x ∗ pt c cc0_stg1_0 r ∗ pt c cc0_stg2_0 idx)
      ∗ ((owes (c : Thread nD τ) (Orecv c) W ∗ slotPts c c (comm P c) ∗ pt c cc0_stg0_0 x ∗ pt c cc0_stg1_0 r ∗ pt c cc0_stg2_0 idx)
          -∗ Kt ⟨SemArray.scalar (sig.barrier 0 rfl), k0_pay2 x, k0_pay3 (F := F) idx, k0_pay4 x r idx⟩))
      ⊢ wp frame (wpE (defs₀ (F := F)) 𝒱₀ (c : Thread nD τ) none) Set.univ (k0_part2 xM (Memref.isWhole_whole _) rM (Memref.isWhole_whole _) iM (Memref.isWhole_whole _) eM (Memref.isWhole_whole _) wM (Memref.isWhole_whole _) oM (Memref.isWhole_whole _) aM (Memref.isWhole_whole _) pM (Memref.isWhole_whole _) cM (Memref.isWhole_whole _) cc0_scratch3 cc0_scratch4 c v2 v13 v24 v35) Kt := by
  rw [k0_part2_eq_skeleton]; unfold k0_part2_skel
  simp only [semSignalWord, Prog.lift, Prog.bind_op, Prog.bind_ret, Prog.pure_eq_ret]
  iintro ⟨⟨#HI, #Hr, HO, Ht0, Ht1, Ht2, ⟨%f, Hc⟩, Hx, Hrt, Hi⟩, Hk⟩
  ihave Hc' := (Entails.of_eq (comm_parts c f)) $$ Hc
  icases Hc' with ⟨Hc, Hs0, Hs1, Hs2⟩
  unfold O₀
  iapply (sig_rule P K c _ 0 (dev1_eq c) (Orecv c + tallyAt (barCell (pe c 2)) () 1 + tallyAt (barCell (pe c 1)) () 1) W (by decide)) $$ [HO Ht0 Hs0]
  · isplitr; · iexact HI
    isplitl [HO]; · iexact HO
    isplitl [Ht0]; · iexact Ht0
    isplitl [Hs0]; · iexists f; iexact Hs0
    isplitr; · iapply (opens_recv c (pe c 0)); iexact Hr
    iapply (opens_bar c 0); iexact Hr
  iintro HO
  iapply (sig_rule P K c _ 1 (dev2_eq c) (Orecv c + tallyAt (barCell (pe c 2)) () 1) W (by decide)) $$ [HO Ht1 Hs1]
  · isplitr; · iexact HI
    isplitl [HO]; · iexact HO
    isplitl [Ht1]; · iexact Ht1
    isplitl [Hs1]; · iexists f; iexact Hs1
    isplitr; · iapply (opens_recv c (pe c 1)); iexact Hr
    iapply (opens_bar c 1); iexact Hr
  iintro HO
  iapply (sig_rule P K c _ 2 (dev3_eq c) (Orecv c) W (by decide)) $$ [HO Ht2 Hs2]
  · isplitr; · iexact HI
    isplitl [HO]; · iexact HO
    isplitl [Ht2]; · iexact Ht2
    isplitl [Hs2]; · iexists f; iexact Hs2
    isplitr; · iapply (opens_recv c (pe c 2)); iexact Hr
    iapply (opens_bar c 2); iexact Hr
  iintro HO
  unfold slotPts
  have hset : (cM.access (Rect.unit (s := S4x128x512) (k0_off1 c) S1x128x512.size (k0_off1_inb c))).set = slotSet c := by
    have h1 := k0_off1_eq c
    rw [show (cM.access (Rect.unit (s := S4x128x512) (k0_off1 c) S1x128x512.size (k0_off1_inb c))).set = (Rect.unit (s := S4x128x512) (k0_off1 c) S1x128x512.size (k0_off1_inb c)).set from View.set_slice_whole commB _]
    unfold slotSet
    exact unit_set h1 _ _
  iapply (wp_load_rect 𝒱₀ (c : Thread nD τ) none Set.univ (m := cM) (r := Rect.unit (s := S4x128x512) (k0_off1 c) S1x128x512.size (k0_off1_inb c)) hset.subset) $$ Hc; iintro Hc
  iapply (wp_store 𝒱₀ (c : Thread nD τ) none Set.univ (m := cM) (r := Rect.unit (s := S4x128x512) (k0_off1 c) S1x128x512.size (k0_off1_inb c)) (Mk := Finset.univ)
    (by rw [View.setOn_univ]; exact hset.subset)) $$ Hc; iintro Hc
  ihave Hc1 := (Entails.of_eq (pointsTo_congr (own_stored P c f))) $$ Hc
  iapply (wp_load 𝒱₀ (c : Thread nD τ) none Set.univ (m := xM) (Finset.subset_univ _)) $$ Hx; iintro Hx
  iapply (wp_load 𝒱₀ (c : Thread nD τ) none Set.univ (m := rM) (Finset.subset_univ _)) $$ Hrt; iintro Hrt
  iapply (wp_load 𝒱₀ (c : Thread nD τ) none Set.univ (m := iM) (Finset.subset_univ _)) $$ Hi; iintro Hi
  rw [show xM.view.readAt (Elt F) (Rect.unit (s := S512x256) ![0, 0] S512x256.size inb_S512x256_S512x256_0_0).toLoadRect x = x from Memref.readAt_unit_zero (Elt F) cc0_stg0_0 hz2 _ x,
    show rM.view.readAt (Elt F) (Rect.unit (s := S256x8) ![0, 0] S256x8.size inb_S256x8_S256x8_0_0).toLoadRect r = r from Memref.readAt_unit_zero (Elt F) cc0_stg1_0 hz2 _ r,
    show iM.view.readAt (Elt F) (Rect.unit (s := S512x1) ![0, 0] S512x1.size inb_S512x1_S512x1_0_0).toLoadRect idx = idx from Memref.readAt_unit_zero (Elt F) cc0_stg2_0 hz2 _ idx,
    wp_ret]
  imodintro
  iapply Hk
  isplitl [HO]; · iexact HO
  isplitl [Hc1]; · iexact Hc1
  isplitl [Hx]; · iexact Hx
  isplitl [Hrt]; · iexact Hrt
  iexact Hi

/-- The third part: the activations, the partial result, the wait on the barrier. -/
theorem part3_run (c : Dev nD) (W : Waits sig Unit) (x : FVec F S512x256 .f32) (r : FVec F S256x8 .f32) (idx : IVec S512x1 32) (ew : FVec F S512x512 .bf16)
    (v13 : BitVec 32) (Kt : PUnit → sProp 𝕄) :
    iprop((invs P K c ∗ levAts L lv ∗ owes (c : Thread nD τ) (Orecv c) W ∗ cred (tallyAt (barCell c) () 3) ∗ atPos ER (barCell c) 0 ∅ 0
        ∗ (∃ f, pt c cc0_scratch0 f) ∗ (∃ f, pt c partB f) ∗ pt c cc0_stg3_0 ew)
      ∗ ((owes (c : Thread nD τ) (Orecv c) (insert (SemLoc.reg barS, ()) W) ∗ atPos ER (barCell c) (0 + 1) ∅ 0
            ∗ barPay c (pe c 0) ∗ barPay c (pe c 1) ∗ barPay c (pe c 2)
            ∗ (∃ f, pt c cc0_scratch0 f) ∗ pt c partB (partOf c x r idx ew) ∗ pt c cc0_stg3_0 ew)
          -∗ Kt ⟨⟩))
      ⊢ wp frame (wpE (defs₀ (F := F)) 𝒱₀ (c : Thread nD τ) none) Set.univ (k0_part3 xM (Memref.isWhole_whole _) rM (Memref.isWhole_whole _) iM (Memref.isWhole_whole _) eM (Memref.isWhole_whole _) wM (Memref.isWhole_whole _) oM (Memref.isWhole_whole _) aM (Memref.isWhole_whole _) pM (Memref.isWhole_whole _) cM (Memref.isWhole_whole _) cc0_scratch3 cc0_scratch4 (myW c) v13 (SemArray.scalar (sig.barrier 0 rfl)) (k0_pay2 x) (k0_pay3 (F := F) idx) (k0_pay4 x r idx)) Kt := by
  rw [k0_part3_eq_skeleton]; unfold k0_part3_skel
  simp only [semWaitWord, Prog.lift, Prog.bind_op, Prog.bind_ret, Prog.pure_eq_ret]
  iintro ⟨⟨#HI, #Hlev, HO, Hcr, Hat, ⟨%fa, Ha⟩, ⟨%fp, Hp⟩, He⟩, Hk⟩
  iapply (wp_load 𝒱₀ (c : Thread nD τ) none Set.univ (m := aM) (Finset.subset_univ _)) $$ Ha; iintro Ha
  iapply (wp_store 𝒱₀ (c : Thread nD τ) none Set.univ (m := aM) (r := rLeft) (Mk := Finset.univ) (Finset.subset_univ _)) $$ Ha; iintro Ha
  iapply (wp_load 𝒱₀ (c : Thread nD τ) none Set.univ (m := aM) (Finset.subset_univ _)) $$ Ha; iintro Ha
  iapply (wp_store 𝒱₀ (c : Thread nD τ) none Set.univ (m := aM) (r := rRight) (Mk := Finset.univ) (Finset.subset_univ _)) $$ Ha; iintro Ha
  rw [act_stored]
  iapply (wp_load 𝒱₀ (c : Thread nD τ) none Set.univ (m := aM) (Finset.subset_univ _)) $$ Ha; iintro Ha
  iapply (wp_load 𝒱₀ (c : Thread nD τ) none Set.univ (m := eM) (Finset.subset_univ _)) $$ He; iintro He
  iapply (wp_load 𝒱₀ (c : Thread nD τ) none Set.univ (m := pM) (Finset.subset_univ _)) $$ Hp; iintro Hp
  iapply (wp_store 𝒱₀ (c : Thread nD τ) none Set.univ (m := pM) (r := Rect.unit (s := S512x512) ![0, 0] S512x512.size inb_S512x512_S512x512_0_0) (Mk := Finset.univ) (Finset.subset_univ _)) $$ Hp; iintro Hp
  rw [show aM.view.readAt (Elt F) (Rect.unit (s := S512x512) ![0, 0] S512x512.size inb_S512x512_S512x512_0_0).toLoadRect (actOf (myW c) x r idx) = actOf (myW c) x r idx from Memref.readAt_unit_zero (Elt F) cc0_scratch0 hz2 _ _,
    show eM.view.readAt (Elt F) (Rect.unit (s := S512x512) ![0, 0] S512x512.size inb_S512x512_S512x512_0_0).toLoadRect ew = ew from Memref.readAt_unit_zero (Elt F) cc0_stg3_0 hz2 _ ew]
  ihave Hp' := (Entails.of_eq (congrArg (fun g => (pt c partB g : sProp 𝕄)) (Memref.write_access_unit_zero_univ (Elt F) partB hz2 inb_S512x512_S512x512_0_0 fp (k0_pay8 (actOf (myW c) x r idx) ew)))) $$ Hp
  iapply (bar_rule P K c W (by decide)) $$ [HO Hcr Hat]
  · isplitr; · iexact HI
    isplitl [Hcr]; · iexact Hcr
    isplitl [HO]; · iexact HO
    isplitr; · iexact Hlev
    iexact Hat
  iintro ⟨HO, Hat, Hb0, Hb1, Hb2⟩
  rw [wp_ret]
  imodintro
  iapply Hk
  isplitl [HO]; · iexact HO
  isplitl [Hat]; · iexact Hat
  isplitl [Hb0]; · iexact Hb0
  isplitl [Hb1]; · iexact Hb1
  isplitl [Hb2]; · iexact Hb2
  isplitl [Ha]; · iexists _; iexact Ha
  isplitl [Hp']; · iexact Hp'
  iexact He

/-- The fourth part: the three copies, and two loads. -/
theorem part4_run (c : Dev nD) (W : Waits sig Unit) (x : FVec F S512x256 .f32) (sh : FVec F S256x512 .f32) (v2 v13 v24 v35 : BitVec 32)
    (Kt : (Σ' (v136 : FVec F S128x256 .f32), Vec F S256x512 .f32) → sProp 𝕄) :
    iprop((invs P K c ∗ opens c ∗ owes (c : Thread nD τ) (Orecv c) W
        ∗ barPay c (pe c 0) ∗ barPay c (pe c 1) ∗ barPay c (pe c 2)
        ∗ rowPts c (pe c 0) (P c) ∗ rowPts c (pe c 1) (P c) ∗ rowPts c (pe c 2) (P c)
        ∗ dutyTok ER (sendCell c 0) 0 0 ∗ dutyTok ER (sendCell c 1) 0 0 ∗ dutyTok ER (sendCell c 2) 0 0
        ∗ dutyTok ER (recvCell (pe c 0) c) 0 0 ∗ dutyTok ER (recvCell (pe c 1) c) 0 0 ∗ dutyTok ER (recvCell (pe c 2) c) 0 0
        ∗ pt c cc0_stg0_0 x ∗ pt c cc0_stg4_0 sh)
      ∗ ((owes (c : Thread nD τ) 0 W
            ∗ cred (tallyAt (sendCell c 0) () N) ∗ cred (tallyAt (sendCell c 1) () N) ∗ cred (tallyAt (sendCell c 2) () N)
            ∗ pt c cc0_stg0_0 x ∗ pt c cc0_stg4_0 sh)
          -∗ Kt ⟨k0_pay9 (xVal c x), sh⟩))
      ⊢ wp frame (wpE (defs₀ (F := F)) 𝒱₀ (c : Thread nD τ) none) Set.univ (k0_part4 xM (Memref.isWhole_whole _) rM (Memref.isWhole_whole _) iM (Memref.isWhole_whole _) eM (Memref.isWhole_whole _) wM (Memref.isWhole_whole _) oM (Memref.isWhole_whole _) aM (Memref.isWhole_whole _) pM (Memref.isWhole_whole _) cM (Memref.isWhole_whole _) cc0_scratch3 cc0_scratch4 c v2 v13 v24 v35) Kt := by
  rw [k0_part4_eq_skeleton]; unfold k0_part4_skel
  simp only [Prog.lift, Prog.bind_op, Prog.bind_ret, Prog.pure_eq_ret]
  unfold barPay Orecv
  iintro ⟨⟨#HI, #Hr, HO, ⟨⟨%f0, Hs0⟩, #HrV0⟩, ⟨⟨%f1, Hs1⟩, #HrV1⟩, ⟨⟨%f2, Hs2⟩, #HrV2⟩, Hp0, Hp1, Hp2, HtS0, HtS1, HtS2, HtV0, HtV1, HtV2, Hx, Hw⟩, Hk⟩
  iapply (copy_rule P K c _ 0 (dev4_eq c) (off4_0 c) (k0_off3_eq c) sendSem0 (recvSemOwn c) f0 (tallyAt (recvCell (pe c 2) c) () N + tallyAt (recvCell (pe c 1) c) () N) W) $$ [HO Hs0 Hp0 HtS0 HtV0]
  · isplitr; · iexact HI
    isplitl [Hp0]; · iexact Hp0
    isplitl [Hs0]; · iexact Hs0
    isplitl [HO]; · iexact HO
    isplitl [HtS0]; · iexact HtS0
    isplitr; · iapply (opens_send c 0); iexact Hr
    isplitl [HtV0]; · iexact HtV0
    iexact HrV0
  iintro ⟨Hc0, HO⟩
  iapply (copy_rule P K c _ 1 (dev5_eq c) (off4_1 c) (k0_off3_eq c) sendSem1 (recvSemOwn c) f1 (tallyAt (recvCell (pe c 2) c) () N) W) $$ [HO Hs1 Hp1 HtS1 HtV1]
  · isplitr; · iexact HI
    isplitl [Hp1]; · iexact Hp1
    isplitl [Hs1]; · iexact Hs1
    isplitl [HO]; · iexact HO
    isplitl [HtS1]; · iexact HtS1
    isplitr; · iapply (opens_send c 1); iexact Hr
    isplitl [HtV1]; · iexact HtV1
    iexact HrV1
  iintro ⟨Hc1, HO⟩
  iapply (copy_rule P K c _ 2 (dev6_eq c) (off4_2 c) (k0_off3_eq c) sendSem2 (recvSemOwn c) f2 0 W) $$ [HO Hs2 Hp2 HtS2 HtV2]
  · isplitr; · iexact HI
    isplitl [Hp2]; · iexact Hp2
    isplitl [Hs2]; · iexact Hs2
    isplitl [HO]; · rw [zero_add]; iexact HO
    isplitl [HtS2]; · iexact HtS2
    isplitr; · iapply (opens_send c 2); iexact Hr
    isplitl [HtV2]; · iexact HtV2
    iexact HrV2
  iintro ⟨Hc2, HO⟩
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  rw [show wM.view.readAt (Elt F) (Rect.unit (s := S256x512) ![0, 0] S256x512.size inb_S256x512_S256x512_0_0).toLoadRect sh = sh from Memref.readAt_unit_zero (Elt F) cc0_stg4_0 hz2 _ sh,
    show xM.view.readAt (Elt F) (Rect.unit (s := S512x256) (k0_off5 c) S128x256.size (k0_off5_inb c)).toLoadRect x = xVal c x from rfl, wp_ret]
  imodintro
  iapply Hk
  isplitl [HO]; · iexact HO
  isplitl [Hc0]; · iexact Hc0
  isplitl [Hc1]; · iexact Hc1
  isplitl [Hc2]; · iexact Hc2
  isplitl [Hx]; · iexact Hx
  iexact Hw

/-- The fifth part: the own rows of the partial result, and the three waits for the peers' rows. -/
theorem part5_run (c : Dev nD) (W : Waits sig Unit) (v2 v13 v24 v35 : BitVec 32) (v136 : FVec F S128x256 .f32) (v137 : Vec F S256x512 .f32)
    (Kt : (Σ' (v139 : FVec F S128x512 .f32), FVec F S128x512 .f32) → sProp 𝕄) :
    iprop((invs P K c ∗ owes (c : Thread nD τ) 0 W ∗ rowPts c c (P c)
        ∗ cred (tallyAt (recvCell c (pe c 0)) () N) ∗ cred (tallyAt (recvCell c (pe c 1)) () N) ∗ cred (tallyAt (recvCell c (pe c 2)) () N)
        ∗ atPos ER (recvCell c (pe c 0)) 0 ∅ 0 ∗ atPos ER (recvCell c (pe c 1)) 0 ∅ 0 ∗ atPos ER (recvCell c (pe c 2)) 0 ∅ 0)
      ∗ (((∃ W, owes (c : Thread nD τ) 0 W) ∗ rowPts c c (P c)
            ∗ slotPts c (pe c 0) (comm P c) ∗ slotPts c (pe c 1) (comm P c) ∗ slotPts c (pe c 2) (comm P c)
            ∗ atPos ER (recvCell c (pe c 0)) (0 + 1) ∅ 0 ∗ atPos ER (recvCell c (pe c 1)) (0 + 1) ∅ 0 ∗ atPos ER (recvCell c (pe c 2)) (0 + 1) ∅ 0)
          -∗ Kt ⟨k0_pay10 v136 v137, k0_pay11 (ownVal P c)⟩))
      ⊢ wp frame (wpE (defs₀ (F := F)) 𝒱₀ (c : Thread nD τ) none) Set.univ (k0_part5 xM (Memref.isWhole_whole _) rM (Memref.isWhole_whole _) iM (Memref.isWhole_whole _) eM (Memref.isWhole_whole _) wM (Memref.isWhole_whole _) oM (Memref.isWhole_whole _) aM (Memref.isWhole_whole _) pM (Memref.isWhole_whole _) cM (Memref.isWhole_whole _) cc0_scratch3 cc0_scratch4 c v2 v13 v24 v35 v136 v137) Kt := by
  rw [k0_part5_eq_skeleton]; unfold k0_part5_skel
  simp only [Prog.lift, Prog.bind_op, Prog.bind_ret, Prog.pure_eq_ret]
  unfold rowPts
  iintro ⟨⟨#HI, HO, Hp, Hc0, Hc1, Hc2, Ha0, Ha1, Ha2⟩, Hk⟩
  have hset : (pM.access (Rect.unit (s := S512x512) (k0_off6 c) S128x512.size (k0_off6_inb c))).set = rowSet c := by
    have h1 := k0_off6_eq c
    rw [show (pM.access (Rect.unit (s := S512x512) (k0_off6 c) S128x512.size (k0_off6_inb c))).set = (Rect.unit (s := S512x512) (k0_off6 c) S128x512.size (k0_off6_inb c)).set from View.set_slice_whole partB _]
    unfold rowSet
    exact unit_set h1 _ _
  iapply (wp_load_rect 𝒱₀ (c : Thread nD τ) none Set.univ (m := pM) (r := Rect.unit (s := S512x512) (k0_off6 c) S128x512.size (k0_off6_inb c)) hset.subset) $$ Hp; iintro Hp
  iapply (recv_rule P K c 0 (recvSem0 c) W) $$ [HO Hc0 Ha0]
  · isplitr; · iexact HI
    isplitl [Hc0]; · iexact Hc0
    isplitl [HO]; · iexact HO
    iexact Ha0
  iintro ⟨HO, Ha0, Hs0⟩
  iapply (recv_rule P K c 1 (recvSem1 c) _) $$ [HO Hc1 Ha1]
  · isplitr; · iexact HI
    isplitl [Hc1]; · iexact Hc1
    isplitl [HO]; · iexact HO
    iexact Ha1
  iintro ⟨HO, Ha1, Hs1⟩
  iapply (recv_rule P K c 2 (recvSem2 c) _) $$ [HO Hc2 Ha2]
  · isplitr; · iexact HI
    isplitl [Hc2]; · iexact Hc2
    isplitl [HO]; · iexact HO
    iexact Ha2
  iintro ⟨HO, Ha2, Hs2⟩
  rw [show View.read (Elt F) (pM.access (Rect.unit (s := S512x512) (k0_off6 c) S128x512.size (k0_off6_inb c))) (P c) = ownVal P c from rfl, wp_ret]
  imodintro
  iapply Hk
  isplitl [HO]; · iexists _; iexact HO
  isplitl [Hp]; · iexact Hp
  isplitl [Hs0]; · iexact Hs0
  isplitl [Hs1]; · iexact Hs1
  isplitl [Hs2]; · iexact Hs2
  isplitl [Ha0]; · iexact Ha0
  isplitl [Ha1]; · iexact Ha1
  iexact Ha2

/-- The sixth part: the sum and its store, and two of the waits for the own copies. -/
theorem part6_run (c : Dev nD) (W : Waits sig Unit) (v139 v143 : FVec F S128x512 .f32) (o : FVec F S128x512 .bf16) (Kt : PUnit → sProp 𝕄) :
    iprop((invs P K c ∗ owes (c : Thread nD τ) 0 W ∗ pt c commB (comm P c) ∗ pt c cc0_stg5_0 o
        ∗ cred (tallyAt (sendCell c 0) () N) ∗ cred (tallyAt (sendCell c 1) () N)
        ∗ atPos ER (sendCell c 0) 0 ∅ 0 ∗ atPos ER (sendCell c 1) 0 ∅ 0)
      ∗ (((∃ W, owes (c : Thread nD τ) 0 W) ∗ pt c commB (comm P c)
            ∗ pt c cc0_stg5_0 (k0_pay12 v139 v143
                (slotVal P c ![0, 0, 0] inb_S4x128x512_S1x128x512_0_0_0) (slotVal P c ![1, 0, 0] inb_S4x128x512_S1x128x512_1_0_0)
                (slotVal P c ![2, 0, 0] inb_S4x128x512_S1x128x512_2_0_0) (slotVal P c ![3, 0, 0] inb_S4x128x512_S1x128x512_3_0_0))
            ∗ rowPts c (pe c 0) (P c) ∗ rowPts c (pe c 1) (P c)
            ∗ atPos ER (sendCell c 0) (0 + 1) ∅ 0 ∗ atPos ER (sendCell c 1) (0 + 1) ∅ 0)
          -∗ Kt ⟨⟩))
      ⊢ wp frame (wpE (defs₀ (F := F)) 𝒱₀ (c : Thread nD τ) none) Set.univ (k0_part6 xM (Memref.isWhole_whole _) rM (Memref.isWhole_whole _) iM (Memref.isWhole_whole _) eM (Memref.isWhole_whole _) wM (Memref.isWhole_whole _) oM (Memref.isWhole_whole _) aM (Memref.isWhole_whole _) pM (Memref.isWhole_whole _) cM (Memref.isWhole_whole _) cc0_scratch3 cc0_scratch4 c v139 v143) Kt := by
  rw [k0_part6_eq_skeleton]; unfold k0_part6_skel
  simp only [Prog.lift, Prog.bind_op, Prog.bind_ret, Prog.pure_eq_ret]
  iintro ⟨⟨#HI, HO, Hc, Ho, Hc0, Hc1, Ha0, Ha1⟩, Hk⟩
  iapply (wp_load 𝒱₀ (c : Thread nD τ) none Set.univ (m := cM) (Finset.subset_univ _)) $$ Hc; iintro Hc
  iapply (wp_load 𝒱₀ (c : Thread nD τ) none Set.univ (m := cM) (Finset.subset_univ _)) $$ Hc; iintro Hc
  iapply (wp_load 𝒱₀ (c : Thread nD τ) none Set.univ (m := cM) (Finset.subset_univ _)) $$ Hc; iintro Hc
  iapply (wp_load 𝒱₀ (c : Thread nD τ) none Set.univ (m := cM) (Finset.subset_univ _)) $$ Hc; iintro Hc
  iapply (wp_load 𝒱₀ (c : Thread nD τ) none Set.univ (m := oM) (Finset.subset_univ _)) $$ Ho; iintro Ho
  iapply (wp_store 𝒱₀ (c : Thread nD τ) none Set.univ (m := oM) (r := Rect.unit (s := S128x512) ![0, 0] S128x512.size inb_S128x512_S128x512_0_0) (Mk := Finset.univ) (Finset.subset_univ _)) $$ Ho; iintro Ho
  ihave Ho' := (Entails.of_eq (congrArg (fun g => (pt c cc0_stg5_0 g : sProp 𝕄)) (Memref.write_access_unit_zero_univ (Elt F) cc0_stg5_0 hz2 inb_S128x512_S128x512_0_0 o _))) $$ Ho
  iapply (send_rule P K c 0 sendSem0 W) $$ [HO Hc0 Ha0]
  · isplitr; · iexact HI
    isplitl [Hc0]; · iexact Hc0
    isplitl [HO]; · iexact HO
    iexact Ha0
  iintro ⟨HO, Ha0, Hp0⟩
  iapply (send_rule P K c 1 sendSem1 _) $$ [HO Hc1 Ha1]
  · isplitr; · iexact HI
    isplitl [Hc1]; · iexact Hc1
    isplitl [HO]; · iexact HO
    iexact Ha1
  iintro ⟨HO, Ha1, Hp1⟩
  rw [wp_ret]
  imodintro
  iapply Hk
  isplitl [HO]; · iexists _; iexact HO
  isplitl [Hc]; · iexact Hc
  isplitl [Ho']; · iexact Ho'
  isplitl [Hp0]; · iexact Hp0
  isplitl [Hp1]; · iexact Hp1
  isplitl [Ha0]; · iexact Ha0
  iexact Ha1

end Cert.KernelIdeal.Exchange

end
-- ==== Proof.Weights.lean ====
/- The weights of the experts over the extended reals: a softmax of finite scores, whose entries are finite and not negative,
   and the law by which such a weight moves out of a sum. -/
module

public import Idealize.ShloMosaic.Lib.ValueIdx
public import Idealize.ShloMosaic.Lib.IdealHost
public import Idealize.ShloMosaic.PureOps.Ideal.Laws

@[expose] public section

noncomputable section

namespace Cert.Weights

open Idealize.ShloMosaic
open Idealize.ShloMosaic.ValueIdx (ix2 ix3 ix1)
open scoped BigOperators

/-- The score of expert `j` for token `i`. -/
def score (X : (⟨2, ![512, 256]⟩ : Shape).Idx → EReal) (R : (⟨2, ![256, 8]⟩ : Shape).Idx → EReal) (i : Fin 512) (j : Fin 8) : EReal :=
  ∑ k : Fin 256, X (ix2 i k) * R (ix2 k j)
/-- The greatest score of token `i`. -/
def top (X : (⟨2, ![512, 256]⟩ : Shape).Idx → EReal) (R : (⟨2, ![256, 8]⟩ : Shape).Idx → EReal) (i : Fin 512) : EReal :=
  (Finset.univ : Finset (Fin 8)).fold max (Ideal.ofBits .f32 0xFF800000#32) (score X R i)
/-- The exponential of a score's distance from the greatest. -/
def expo (X : (⟨2, ![512, 256]⟩ : Shape).Idx → EReal) (R : (⟨2, ![256, 8]⟩ : Shape).Idx → EReal) (i : Fin 512) (j : Fin 8) : EReal :=
  Ideal.exp (score X R i j - top X R i)
/-- The weight of expert `j` for token `i`. -/
def prob (X : (⟨2, ![512, 256]⟩ : Shape).Idx → EReal) (R : (⟨2, ![256, 8]⟩ : Shape).Idx → EReal) (i : Fin 512) (j : Fin 8) : EReal :=
  Ideal.div (expo X R i j) (∑ j' : Fin 8, expo X R i j')

/-- The expert that token `i` is read at: its index held between 0 and 7. -/
def pick (I : (⟨2, ![512, 1]⟩ : Shape).Idx → BitVec 32) (i : Fin 512) : Fin 8 := ⟨min (I (ix2 i 0)).toInt.toNat 7, by omega⟩
/-- The weight that the reference gives token `i`'s expert: zero if the index names none of the eight. -/
def gate (X : (⟨2, ![512, 256]⟩ : Shape).Idx → EReal) (R : (⟨2, ![256, 8]⟩ : Shape).Idx → EReal) (I : (⟨2, ![512, 1]⟩ : Shape).Idx → BitVec 32)
    (i : Fin 512) : EReal :=
  if (I (ix2 i 0)).toNat < 8 then prob X R i (pick I i) else 0

/-- The word of minus infinity. -/
theorem ofBits_bot : Ideal.ofBits .f32 0xFF800000#32 = ⊥ := by simp [Ideal.ofBits, Ideal.ieee]

/-- A sum of real numbers is a real number. -/
theorem sum_coe {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

/-- An extended real whose absolute value is below infinity is a real number. -/
theorem real_of_abs {x : EReal} (h : max x (-x) < ⊤) : ∃ r : ℝ, x = r := by
  induction x with
  | bot => simp at h
  | top => simp at h
  | coe r => exact ⟨r, rfl⟩

variable {X : (⟨2, ![512, 256]⟩ : Shape).Idx → EReal} {R : (⟨2, ![256, 8]⟩ : Shape).Idx → EReal}

theorem score_real (hX : ∀ i, ∃ r : ℝ, X i = r) (hR : ∀ i, ∃ r : ℝ, R i = r) (i : Fin 512) (j : Fin 8) : ∃ r : ℝ, score X R i j = r := by
  choose x hx using hX
  choose w hw using hR
  refine ⟨∑ k, x (ix2 i k) * w (ix2 k j), ?_⟩
  rw [← sum_coe]
  exact Finset.sum_congr rfl fun k _ => by rw [hx, hw, EReal.coe_mul]

theorem top_real (hX : ∀ i, ∃ r : ℝ, X i = r) (hR : ∀ i, ∃ r : ℝ, R i = r) (i : Fin 512) : ∃ r : ℝ, top X R i = r := by
  have h1 : top X R i < ⊤ := by
    unfold top
    rw [Finset.fold_max_lt]
    refine ⟨by rw [ofBits_bot]; exact bot_lt_top, fun j _ => ?_⟩
    obtain ⟨r, hr⟩ := score_real hX hR i j
    rw [hr]; exact EReal.coe_lt_top r
  have h2 : ⊥ < top X R i := by
    unfold top
    rw [Finset.lt_fold_max]
    obtain ⟨r, hr⟩ := score_real hX hR i 0
    exact Or.inr ⟨0, Finset.mem_univ _, by rw [hr]; exact EReal.bot_lt_coe r⟩
  exact ⟨(top X R i).toReal, (EReal.coe_toReal h1.ne h2.ne').symm⟩

theorem expo_real (hX : ∀ i, ∃ r : ℝ, X i = r) (hR : ∀ i, ∃ r : ℝ, R i = r) (i : Fin 512) (j : Fin 8) : ∃ r : ℝ, 0 < r ∧ expo X R i j = r := by
  obtain ⟨s, hs⟩ := score_real hX hR i j
  obtain ⟨t, ht⟩ := top_real hX hR i
  refine ⟨Real.exp (s - t), Real.exp_pos _, ?_⟩
  unfold expo
  rw [hs, ht, ← EReal.coe_sub]
  rfl

/-- With finite tokens and router weights every expert's weight is a real number that is not negative. -/
theorem prob_real (hX : ∀ i, ∃ r : ℝ, X i = r) (hR : ∀ i, ∃ r : ℝ, R i = r) (i : Fin 512) (j : Fin 8) : ∃ r : ℝ, 0 ≤ r ∧ prob X R i j = r := by
  choose e he hE using expo_real hX hR i
  have hs : ∑ j' : Fin 8, expo X R i j' = ((∑ j', e j' : ℝ) : EReal) := by
    rw [← sum_coe]; exact Finset.sum_congr rfl fun k _ => hE k
  have hp : 0 < ∑ j', e j' := Finset.sum_pos (fun k _ => he k) ⟨0, Finset.mem_univ _⟩
  refine ⟨e j * (∑ j', e j')⁻¹, mul_nonneg (he j).le (inv_nonneg.mpr hp.le), ?_⟩
  unfold prob Ideal.div
  rw [hs, hE, if_neg (by exact_mod_cast hp.ne'), EReal.coe_mul, EReal.coe_inv]

/-- A real factor that is not negative moves out of a sum of products. -/
theorem sum_scaled {n : ℕ} {p : ℝ} (h : 0 ≤ p) (x w : Fin n → EReal) : ∑ k, (x k * (p : EReal)) * w k = (p : EReal) * ∑ k, x k * w k := by
  have h0 : (0 : EReal) ≤ p := by exact_mod_cast h
  induction n with
  | zero => simp
  | succ n ih =>
    rw [Fin.sum_univ_succ, Fin.sum_univ_succ, ih, EReal.left_distrib_of_nonneg_of_ne_top h0 (EReal.coe_ne_top p), mul_comm (x 0), mul_assoc]

end Cert.Weights

end
-- ==== Proof.Values.lean ====
/- The values that the kernel computes over the reals, read at an index: the weights, the activations, the partial results and the
   result block. -/
module

public import proofs.«01_k».proof.Proof.Parts
public import proofs.«01_k».proof.Proof.Weights
public import Idealize.ShloMosaic.Lib.MatmulPlain
public import Idealize.ShloMosaic.Lib.Pipeline.ValueKit

@[expose] public section

noncomputable section

namespace Cert.KernelIdeal.Exchange

open Idealize.ShloMosaic hiding ix1 ix2 ix3
open Idealize.ShloMosaic.TcCoe Idealize.ShloMosaic.Tactic
open Idealize.ShloMosaic.ValueIdx
open Cert.KernelIdeal Cert.KernelIdeal.Gen Cert.Weights
open scoped BigOperators

/-! ## The weights -/

/-- A choice between two values by the equality of two words. -/
theorem select_eq (a b : BitVec 32) (x y : EReal) : Scalar.select (IntOp.cmpi .eq a b) x y = if a = b then x else y := by
  unfold Scalar.select
  by_cases h : a = b
  · simp [IntOp.cmpi, h]
  · have h' : (a == b) = false := by simp [h]
    simp [IntOp.cmpi, h, h']

/-- The greatest entry of a row. -/
theorem rowMax_apply (S : FVec Ideal S512x8 .f32) (h1) (h2) (h3) (i : Fin 512) :
    multiReduction (F := Ideal) .maximumf [1] S512 S 0xFF800000#32 h1 h2 h3 (ix1 i)
      = (Finset.univ : Finset (Fin 8)).fold max (Ideal.ofBits .f32 0xFF800000#32) fun j => S (ix2 i j) := by
  rw [Ideal.multiReduction_maximumf_single]
  refine congrArg (Finset.fold max _ · _) (funext fun k => congrArg S (funext fun a => ?_))
  match a with | ⟨0, _⟩ => rfl | ⟨1, _⟩ => rfl

/-- The sum of a row. -/
theorem rowSum_apply (S : FVec Ideal S512x8 .f32) (h1) (h2) (h3) (i : Fin 512) :
    multiReduction (F := Ideal) .add [1] S512 S 0x00000000#32 h1 h2 h3 (ix1 i) = ∑ j : Fin 8, S (ix2 i j) := by
  rw [Ideal.multiReduction_add_single]
  refine Finset.sum_congr rfl fun k _ => congrArg S (funext fun a => ?_)
  match a with | ⟨0, _⟩ => rfl | ⟨1, _⟩ => rfl

/-- A column laid across the eight experts. -/
theorem across8_apply (y : FVec Ideal S512 .f32) (i : Fin 512) (j : Fin 8) :
    broadcastTo S512x8 (shapeCast S512x1 y shapeCasts_S512_S512x1) broadcasts_S512x1_S512x8 (ix2 i j) = y (ix1 i) := by
  rw [broadcastTo_apply _ _ _ (ix2 i (0 : Fin 1)) (fun a => by match a with | ⟨0, _⟩ => rfl | ⟨1, _⟩ => rfl)]
  exact shapeCast_apply _ _ _ _ (by rw [Shape.rowMajor_val_one, Shape.rowMajor_val_two]; show i.val = i.val * 1 + 0; omega)

theorem score_apply (x : FVec Ideal S512x256 .f32) (r : FVec Ideal S256x8 .f32) (i : Fin 512) (j : Fin 8) :
    matmul dot_S512x256_S256x8_S512x8_1_0_0_1_n_n none x r (constant S512x8 .f32 0x00000000#32) (ix2 i j) = score x r i j := by
  show FloatOps.matmul (DotDims.plain 512 256 8) none x r (constant S512x8 .f32 0x00000000#32) (ix2 i j) = _
  rw [Ideal.matmul_plain_apply]
  show Ideal.ofBits .f32 0x00000000#32 + _ = _
  rw [Ideal.ofBits_zero_f32, zero_add]; rfl

/-- The routed weights: expert `j`'s weight for token `i` where the token goes to `j`, zero elsewhere. -/
theorem pay4_apply (x : FVec Ideal S512x256 .f32) (r : FVec Ideal S256x8 .f32) (idx : IVec S512x1 32) (i : Fin 512) (j : Fin 8) :
    k0_pay4 (F := Ideal) x r idx (ix2 i j) = if idx (ix2 i 0) = BitVec.ofNat 32 j.val then prob x r i j else 0 := by
  unfold k0_pay4 k0_pay2 k0_pay3
  simp only [shapeCast_self]
  set S := matmul dot_S512x256_S256x8_S512x8_1_0_0_1_n_n none x r (constant S512x8 .f32 0x00000000#32) with hS
  have hs : ∀ i j, S (ix2 i j) = score x r i j := fun i j => score_apply x r i j
  have hm : ∀ i, multiReduction .maximumf [1] S512 S 0xFF800000#32 reduces_S512x8_S512 (.inl rfl) rfl (ix1 i) = top x r i := fun i => by
    refine (rowMax_apply S _ _ _ i).trans ?_
    unfold top
    exact congrArg (Finset.fold max _ · _) (funext fun j => hs i j)
  set E := exp (subf S (broadcastTo S512x8 (shapeCast S512x1 (multiReduction .maximumf [1] S512 S 0xFF800000#32 reduces_S512x8_S512 (.inl rfl) rfl)
    shapeCasts_S512_S512x1) broadcasts_S512x1_S512x8)) with hE
  have he : ∀ i j, E (ix2 i j) = expo x r i j := fun i j => by
    show Ideal.exp (S (ix2 i j) - broadcastTo S512x8 _ _ (ix2 i j)) = _
    rw [across8_apply, hs, hm]; rfl
  have ha : ∀ i, multiReduction .add [1] S512 E 0x00000000#32 reduces_S512x8_S512 (.inl rfl) rfl (ix1 i) = ∑ j, expo x r i j := fun i =>
    (rowSum_apply E _ _ _ i).trans (Finset.sum_congr rfl fun k _ => he i k)
  rw [select_apply]
  have hd : divf E (broadcastTo S512x8 (shapeCast S512x1 (multiReduction .add [1] S512 E 0x00000000#32 reduces_S512x8_S512 (.inl rfl) rfl)
      shapeCasts_S512_S512x1) broadcasts_S512x1_S512x8) (ix2 i j) = prob x r i j := by
    show Ideal.div (E (ix2 i j)) (broadcastTo S512x8 _ _ (ix2 i j)) = _
    rw [across8_apply, he, ha]; rfl
  rw [hd]
  have hb : broadcastTo S512x8 idx broadcasts_S512x1_S512x8 (ix2 i j) = idx (ix2 i 0) :=
    broadcastTo_apply _ _ _ (ix2 i (0 : Fin 1)) (fun a => by match a with | ⟨0, _⟩ => rfl | ⟨1, _⟩ => rfl)
  show Scalar.select (Scalar.cmpi .eq (broadcastTo S512x8 idx broadcasts_S512x1_S512x8 (ix2 i j)) (iota .tc S512x8 32 [1] iota_S512x8_d1_w32 (ix2 i j))) _ (Ideal.ofBits .f32 0x00000000#32) = _
  rw [hb, iota_single_apply, Ideal.ofBits_zero_f32]
  exact select_eq _ _ _ _

/-- The weight of the expert that token `i` goes to; zero if it goes to none of the eight. -/
def routed (x : FVec Ideal S512x256 .f32) (r : FVec Ideal S256x8 .f32) (idx : IVec S512x1 32) (i : Fin 512) : EReal :=
  ∑ j : Fin 8, if idx (ix2 i 0) = BitVec.ofNat 32 j.val then prob x r i j else 0

theorem pay5_apply (x : FVec Ideal S512x256 .f32) (r : FVec Ideal S256x8 .f32) (idx : IVec S512x1 32) (i : Fin 512) :
    k0_pay5 (F := Ideal) (k0_pay4 x r idx) (ix2 i 0) = routed x r idx i := by
  unfold k0_pay5
  dsimp only
  rw [shapeCast_apply _ _ _ (ix1 i) (by rw [Shape.rowMajor_val_one, Shape.rowMajor_val_two]; show i.val = i.val * 1 + 0; omega)]
  exact (rowSum_apply _ _ _ _ i).trans (Finset.sum_congr rfl fun k _ => pay4_apply x r idx i k)

/-! ## The activations -/

/-- The activations of one expert: token `i` scaled by its weight if it goes to the expert numbered `w`, zero otherwise. -/
theorem pay6_apply (w : BitVec 32) (x : FVec Ideal S512x256 .f32) (r : FVec Ideal S256x8 .f32) (idx : IVec S512x1 32) (i : Fin 512) (k : Fin 256) :
    k0_pay6 (F := Ideal) w (k0_pay2 x) (k0_pay3 (F := Ideal) idx) (k0_pay4 x r idx) (ix2 i k)
      = x (ix2 i k) * if idx (ix2 i 0) = w * 2#32 then routed x r idx i else 0 := by
  unfold k0_pay6
  simp only [shapeCast_self]
  show (k0_pay2 (F := Ideal) x) (ix2 i k) * broadcastTo S512x256 _ _ (ix2 i k) = _
  rw [show k0_pay2 (F := Ideal) x = x from shapeCast_self _ _, broadcastTo_apply _ _ _ (ix2 i (0 : Fin 1)) (fun a => by match a with | ⟨0, _⟩ => rfl | ⟨1, _⟩ => rfl), select_apply, pay5_apply]
  congr 1
  show Scalar.select (Scalar.cmpi .eq (k0_pay3 (F := Ideal) idx (ix2 i 0)) (w * 2#32 + 0#32)) _ (Ideal.ofBits .f32 0x00000000#32) = _
  rw [show k0_pay3 (F := Ideal) idx = idx from shapeCast_self _ _, Ideal.ofBits_zero_f32, BitVec.add_zero]
  exact select_eq _ _ _ _

theorem pay7_apply (w : BitVec 32) (x : FVec Ideal S512x256 .f32) (r : FVec Ideal S256x8 .f32) (idx : IVec S512x1 32) (i : Fin 512) (k : Fin 256) :
    k0_pay7 (F := Ideal) w (k0_pay2 x) (k0_pay3 (F := Ideal) idx) (k0_pay4 x r idx) (ix2 i k)
      = x (ix2 i k) * if idx (ix2 i 0) = w * 2#32 + 1#32 then routed x r idx i else 0 := by
  unfold k0_pay7
  simp only [shapeCast_self]
  show (k0_pay2 (F := Ideal) x) (ix2 i k) * broadcastTo S512x256 _ _ (ix2 i k) = _
  rw [show k0_pay2 (F := Ideal) x = x from shapeCast_self _ _, broadcastTo_apply _ _ _ (ix2 i (0 : Fin 1)) (fun a => by match a with | ⟨0, _⟩ => rfl | ⟨1, _⟩ => rfl), select_apply, pay5_apply]
  congr 1
  show Scalar.select (Scalar.cmpi .eq (k0_pay3 (F := Ideal) idx (ix2 i 0)) (w * 2#32 + 1#32)) _ (Ideal.ofBits .f32 0x00000000#32) = _
  rw [show k0_pay3 (F := Ideal) idx = idx from shapeCast_self _ _, Ideal.ofBits_zero_f32]
  exact select_eq _ _ _ _

/-- The device's number as the program computes it is the device's number. -/
theorem myW_eq : ∀ c : Dev nD, myW c = BitVec.ofNat 32 c.val := by decide +kernel

/-! ## The partial results -/

/-- Expert `e`'s share of the result for token `i`: the token, scaled by its weight, times the expert's weights. -/
def share (x : FVec Ideal S512x256 .f32) (p : EReal) (b : Bool) (i : Fin 512) (wt : Fin 256 → EReal) : EReal :=
  ∑ k : Fin 256, (x (ix2 i k) * if b then p else 0) * wt k

/-- A device's partial result: the shares of its two experts. -/
theorem partOf_apply (c : Dev nD) (x : FVec Ideal S512x256 .f32) (r : FVec Ideal S256x8 .f32) (idx : IVec S512x1 32) (w : FVec Ideal S2x256x512 .f32)
    (i : Fin 512) (h : Fin 512) :
    partOf (F := Ideal) c x r idx (truncf (F := Ideal) .bf16 (shapeCast S512x512 w shapeCasts_S2x256x512_S512x512) bitsLt_bf16_f32) (ix2 i h)
      = share x (routed x r idx i) (decide (idx (ix2 i 0) = BitVec.ofNat 32 (2 * c.val))) i (fun k => w (ix3 (0 : Fin 2) k h))
        + share x (routed x r idx i) (decide (idx (ix2 i 0) = BitVec.ofNat 32 (2 * c.val + 1))) i (fun k => w (ix3 (1 : Fin 2) k h)) := by
  unfold partOf k0_pay8
  simp only [shapeCast_self]
  show FloatOps.matmul (φ₁ := .bf16) (φ₂ := .bf16) (DotDims.plain 512 512 512) none _ _ (constant (F := Ideal) S512x512 .f32 0x00000000#32) (ix2 i h) = _
  rw [Ideal.matmul_plain_apply]
  show Ideal.ofBits .f32 0x00000000#32 + _ = _
  rw [Ideal.ofBits_zero_f32, zero_add]
  have hc : c.val < 4 := c.isLt
  have h0 : myW c * 2#32 = BitVec.ofNat 32 (2 * c.val) := by
    rw [myW_eq]; apply BitVec.eq_of_toNat_eq; simp [BitVec.toNat_mul]; omega
  have h1 : myW c * 2#32 + 1#32 = BitVec.ofNat 32 (2 * c.val + 1) := by
    rw [h0]; apply BitVec.eq_of_toNat_eq; simp [BitVec.toNat_add]
  refine (Fin.sum_univ_add (a := 256) (b := 256) _).trans ?_
  unfold share
  congr 1 <;> refine Finset.sum_congr rfl fun k _ => ?_
  · congr 1
    · unfold actOf
      rw [dif_pos (show ((ix2 i (Fin.castAdd 256 k : Fin 512) : S512x512.Idx) 1).val < 256 from k.isLt)]
      refine (pay6_apply (myW c) x r idx i k).trans ?_
      rw [h0]; simp
    · show shapeCast S512x512 w shapeCasts_S2x256x512_S512x512 (ix2 (Fin.castAdd 256 k : Fin 512) h) = _
      exact shapeCast_apply _ _ _ _ (by
        rw [Shape.rowMajor_val_three, Shape.rowMajor_val_two]
        show (0 * 256 + k.val) * 512 + h.val = k.val * 512 + h.val; omega)
  · congr 1
    · unfold actOf
      rw [dif_neg (show ¬ ((ix2 i (Fin.natAdd 256 k : Fin 512) : S512x512.Idx) 1).val < 256 from by show ¬ (256 + k.val < 256); omega)]
      have hk : (⟨((ix2 i (Fin.natAdd 256 k : Fin 512) : S512x512.Idx) 1).val - 256, by show 256 + k.val - 256 < 256; omega⟩ : Fin 256) = k :=
        Fin.ext (by show 256 + k.val - 256 = k.val; omega)
      refine (congrArg (fun k' => k0_pay7 (F := Ideal) (myW c) (k0_pay2 x) (k0_pay3 (F := Ideal) idx) (k0_pay4 x r idx) (ix2 i k')) hk).trans ?_
      refine (pay7_apply (myW c) x r idx i k).trans ?_
      rw [h1]; simp
    · show shapeCast S512x512 w shapeCasts_S2x256x512_S512x512 (ix2 (Fin.natAdd 256 k : Fin 512) h) = _
      exact shapeCast_apply _ _ _ _ (by
        rw [Shape.rowMajor_val_three, Shape.rowMajor_val_two]
        show (1 * 256 + k.val) * 512 + h.val = (256 + k.val) * 512 + h.val; omega)

/-! ## The result block -/

/-- One of four summands, and the four with that one struck out, are the four. -/
theorem four_sum (c : Fin 4) (p : Fin 4 → EReal) :
    p c + ((((if 0 = c then 0 else p 0) + if 1 = c then 0 else p 1) + if 2 = c then 0 else p 2) + if 3 = c then 0 else p 3) = ∑ d, p d := by
  rw [Fin.sum_univ_four]
  fin_cases c
  · simp; abel
  · simp; abel
  · simp; abel
  · simp; abel

theorem zeros_apply (j : S1x128x512.Idx) : k0_pay1 (F := Ideal) j = (0 : EReal) := by
  show Ideal.ofBits .bf16 0x0000#16 = 0
  simp [Ideal.ofBits, Ideal.ieee]

variable (P : Dev nD → S512x512.Idx → EReal)

theorem slotVal_apply (c : Dev nD) (s : Fin 4) {off : Fin 3 → ℕ} (e : off = ![s.val, 0, 0]) (hin) (r : Fin 128) (h : Fin 512) :
    shapeCast S128x512 (slotVal (F := Ideal) P c off hin) shapeCasts_S1x128x512_S128x512 (ix2 r h) = if s = c then 0 else P s (atRow c r h) := by
  subst e
  rw [shapeCast_apply _ _ _ (ix3 (0 : Fin 1) r h) (by
    rw [Shape.rowMajor_val_three, Shape.rowMajor_val_two]; show (0 * 128 + r.val) * 512 + h.val = r.val * 512 + h.val; omega)]
  show comm (F := Ideal) P c _ = _
  have hi : (Rect.unit (s := S4x128x512) ![s.val, 0, 0] S1x128x512.size hin).emb (ix3 (0 : Fin 1) r h) = (ix3 s r h : S4x128x512.Idx) := by
    funext a; apply Fin.ext
    match a with
    | ⟨0, _⟩ => show s.val + 1 * 0 = s.val; omega
    | ⟨1, _⟩ => show 0 + 1 * r.val = r.val; omega
    | ⟨2, _⟩ => show 0 + 1 * h.val = h.val; omega
  refine (congrArg (comm (F := Ideal) P c) hi).trans ?_
  unfold comm
  by_cases hs : s = c
  · subst hs
    rw [if_pos rfl, if_pos rfl]; exact zeros_apply _
  · rw [if_neg hs, if_neg (show ¬ ((ix3 s r h : S4x128x512.Idx) 0).val = c.val from fun h' => hs (Fin.ext h'))]

theorem ownVal_apply (c : Dev nD) (r : Fin 128) (h : Fin 512) : ownVal (F := Ideal) P c (ix2 r h) = P c (atRow c r h) := by
  show P c _ = _
  congr 1
  funext a; apply Fin.ext
  match a with
  | ⟨0, _⟩ =>
    show k0_off6 c 0 + 1 * r.val = 128 * c.val + r.val
    rw [k0_off6_eq]; show 128 * c.val + 1 * r.val = _; omega
  | ⟨1, _⟩ =>
    show k0_off6 c 1 + 1 * h.val = h.val
    rw [k0_off6_eq]; show 0 + 1 * h.val = _; omega

/-- Row `r` of device `c`'s rows. -/
abbrev rowOf (c : Dev nD) (r : Fin 128) : Fin 512 := ⟨128 * c.val + r.val, by have : c.val < 4 := c.isLt; omega⟩

theorem xVal_apply (c : Dev nD) (x : FVec Ideal S512x256 .f32) (r : Fin 128) (k : Fin 256) : xVal (F := Ideal) c x (ix2 r k) = x (ix2 (rowOf c r) k) := by
  show x _ = _
  congr 1
  funext a; apply Fin.ext
  match a with
  | ⟨0, _⟩ =>
    show k0_off5 c 0 + 1 * r.val = 128 * c.val + r.val
    rw [k0_off5_eq]; show 128 * c.val + 1 * r.val = _; omega
  | ⟨1, _⟩ =>
    show k0_off5 c 1 + 1 * k.val = k.val
    rw [k0_off5_eq]; show 0 + 1 * k.val = _; omega

/-- Device `c`'s block: the shared expert's rows and the rows of all four partial results. -/
theorem outOf_apply (c : Dev nD) (x : FVec Ideal S512x256 .f32) (sh : FVec Ideal S256x512 .f32) (r : Fin 128) (h : Fin 512) :
    outOf (F := Ideal) P c x sh (ix2 r h) = ∑ k : Fin 256, x (ix2 (rowOf c r) k) * sh (ix2 k h) + ∑ d : Fin 4, P d (atRow c r h) := by
  have hsh : k0_pay10 (F := Ideal) (k0_pay9 (xVal c x)) sh (ix2 r h) = ∑ k : Fin 256, x (ix2 (rowOf c r) k) * sh (ix2 k h) := by
    unfold k0_pay10 k0_pay9
    simp only [shapeCast_self]
    show FloatOps.matmul (DotDims.plain 128 256 512) none _ _ (constant S128x512 .f32 0x00000000#32) (ix2 r h) = _
    rw [Ideal.matmul_plain_apply]
    show Ideal.ofBits .f32 0x00000000#32 + _ = _
    rw [Ideal.ofBits_zero_f32, zero_add]
    exact Finset.sum_congr rfl fun k _ => by rw [xVal_apply]
  have hall : outOf (F := Ideal) P c x sh (ix2 r h) = (k0_pay10 (F := Ideal) (k0_pay9 (xVal c x)) sh (ix2 r h) + ownVal (F := Ideal) P c (ix2 r h))
      + (((shapeCast S128x512 (slotVal (F := Ideal) P c ![0, 0, 0] inb_S4x128x512_S1x128x512_0_0_0) shapeCasts_S1x128x512_S128x512 (ix2 r h)
        + shapeCast S128x512 (slotVal (F := Ideal) P c ![1, 0, 0] inb_S4x128x512_S1x128x512_1_0_0) shapeCasts_S1x128x512_S128x512 (ix2 r h))
        + shapeCast S128x512 (slotVal (F := Ideal) P c ![2, 0, 0] inb_S4x128x512_S1x128x512_2_0_0) shapeCasts_S1x128x512_S128x512 (ix2 r h))
        + shapeCast S128x512 (slotVal (F := Ideal) P c ![3, 0, 0] inb_S4x128x512_S1x128x512_3_0_0) shapeCasts_S1x128x512_S128x512 (ix2 r h)) := rfl
  rw [hall, hsh, ownVal_apply, slotVal_apply P c 0 (off := ![0, 0, 0]) rfl, slotVal_apply P c 1 (off := ![1, 0, 0]) rfl, slotVal_apply P c 2 (off := ![2, 0, 0]) rfl, slotVal_apply P c 3 (off := ![3, 0, 0]) rfl, add_assoc]
  congr 1
  exact four_sum c fun d => P d (atRow c r h)

end Cert.KernelIdeal.Exchange

end
-- ==== Proof.Reference.lean ====
/- The value of the reference over the reals, read at an index: the shared expert's row and the weighted row of the token's expert. -/
module

public import proofs.«01_k».proof.Proof.Gen.ReferenceIdeal.Run
public import proofs.«01_k».proof.Proof.Weights
public import Idealize.ShloMosaic.Lib.MatmulPlain
public import Idealize.ShloMosaic.Lib.IdealHost
public import Idealize.ShloMosaic.Lib.KernelVsHost
public import Idealize.ShloMosaic.Lib.WordCmp
public import Idealize.ShloMosaic.Lib.Pipeline.Value

@[expose] public section

noncomputable section

namespace Cert.ReferenceIdeal.Read

open Idealize.ShloMosaic
open Idealize.ShloMosaic.TcCoe
open Idealize.ShloMosaic.ValueIdx
open Cert.ReferenceIdeal Cert.ReferenceIdeal.Gen Cert.Weights
open scoped BigOperators

/-! ## The reference's steps -/

/-- The scores. -/
def scores (x : FVec Ideal S512x256 .f32) (r : FVec Ideal S256x8 .f32) : FVec Ideal S512x8 .f32 :=
  Host.dotGeneral dot_S512x256_S256x8_S512x8_1_0_0_1_n_n none x r
/-- A column laid across the experts. -/
def across (y : FVec Ideal S512 .f32) : FVec Ideal S512x8 .f32 :=
  broadcastInDim S512x8 ![0, 1] bcast_S512x1_S512x8_0_1 (broadcastInDim S512x1 ![0] bcast_S512_S512x1_0 y)
/-- The exponentials of the scores' distances from the greatest. -/
def expos (x : FVec Ideal S512x256 .f32) (r : FVec Ideal S256x8 .f32) : FVec Ideal S512x8 .f32 :=
  Host.exp (subf (scores x r) (across (Host.reduce FloatOps.maximumf (scores x r) (constant S_ .f32 0xFF800000#32) reducesTo_S512x8_S512_d1 h_S_)))
/-- The weights. -/
def probs (x : FVec Ideal S512x256 .f32) (r : FVec Ideal S256x8 .f32) : FVec Ideal S512x8 .f32 :=
  Host.divf (expos x r) (across (Host.reduceAdd (expos x r) (constant S_ .f32 0x00000000#32) reducesTo_S512x8_S512_d1 h_S_))
/-- The row and the expert that each token is read at. -/
def places (idx : IVec S512x1 32) : IVec S512x2 32 :=
  concatenate S512x2 1 [⟨S512x1, (broadcastInDim S512x1 ![0] bcast_S512_S512x1_0 (iotaInDim S512 32 0))⟩,
    ⟨S512x1, (broadcastInDim S512x1 ![0] bcast_S512_S512x1_0 (shapeCast S512 idx shapeCasts_S512x1_S512))⟩] concatenates_S512x1_S512x1_S512x2_d1
/-- The last row and the last expert, for each token. -/
def lasts : IVec S512x2 32 := broadcastInDim S512x2 ![0, 1] bcast_S1x2_S512x2_0_1 (broadcastInDim S1x2 ![1] bcast_S2_S1x2_1 (fun i => lit0 (S2.rowMajor i)))
/-- Whether a coordinate of a place lies in the table. -/
def tests (idx : IVec S512x1 32) : IVec S512x2 1 :=
  andi (cmpi .sge (places idx) (broadcastInDim S512x2 ![] bcast_S_S512x2 (constantI S_ 32 0#32))) (cmpi .sle (places idx) lasts)
/-- Whether a place lies in the table. -/
def inside (idx : IVec S512x1 32) : IVec S512 1 :=
  Host.reduce IntOp.andi (tests idx) (constantI S_ 1 1#1) reducesTo_S512x2_S512_d1 h_S_
/-- The weight of each token's expert. -/
def weight (x : FVec Ideal S512x256 .f32) (r : FVec Ideal S256x8 .f32) (idx : IVec S512x1 32) : FVec Ideal S512 .f32 :=
  select (inside idx) (Host.gather gather_S512x8_S512x2_S512_n_01_n_n_01_1_11 (probs x r) (places idx)) (broadcastInDim S512 ![] bcast_S_S512 (constant S_ .f32 0x00000000#32))
/-- The row that each token's expert gives. -/
def rows (x : FVec Ideal S512x256 .f32) (idx : IVec S512x1 32) (w : FVec Ideal S8x256x512 .f32) : FVec Ideal S512x512 .f32 :=
  Host.gather gather_S512x8x512_S512x2_S512x512_1_01_n_n_01_1_11512 (Host.dotGeneral dot_S512x256_S8x256x512_S512x8x512_1_1_0_02_n_n none x w) (places idx)
/-- The reference's result. -/
def result (x : FVec Ideal S512x256 .f32) (r : FVec Ideal S256x8 .f32) (idx : IVec S512x1 32) (w : FVec Ideal S8x256x512 .f32) (sh : FVec Ideal S256x512 .f32) :
    FVec Ideal S512x512 .bf16 :=
  truncf .bf16 (addf (Host.dotGeneral dot_S512x256_S256x512_S512x512_1_0_0_1_n_n none x sh)
    (mulf (broadcastInDim S512x512 ![0, 1] bcast_S512x1_S512x512_0_1 (broadcastInDim S512x1 ![0] bcast_S512_S512x1_0 (weight x r idx))) (rows x idx w))) bitsLt_bf16_f32

/-! ## The steps read at an index -/

theorem across_apply (y : FVec Ideal S512 .f32) (i : Fin 512) (j : Fin 8) : across y (ix2 i j) = y (ix1 i) := by
  unfold across
  rw [broadcastInDim_apply _ _ _ _ (ix2 i (0 : Fin 1)) (fun a => by match a with | ⟨0, _⟩ => rfl | ⟨1, _⟩ => rfl)]
  exact broadcastInDim_apply _ _ _ _ (ix1 i) (fun a => by match a with | ⟨0, _⟩ => rfl)

theorem scores_apply (x : FVec Ideal S512x256 .f32) (r : FVec Ideal S256x8 .f32) (i : Fin 512) (j : Fin 8) : scores x r (ix2 i j) = score x r i j := by
  unfold scores
  rw [← matmul_zero_eq_dotGeneral]
  show FloatOps.matmul (DotDims.plain 512 256 8) none x r (constant S512x8 .f32 0x00000000#32) (ix2 i j) = _
  rw [Ideal.matmul_plain_apply]
  show Ideal.ofBits .f32 0x00000000#32 + _ = _
  rw [Ideal.ofBits_zero_f32, zero_add]; rfl

theorem reduces8 : S512x8.Reduces [1] S512 := by decide +kernel
theorem reduces2 : S512x2.Reduces [1] S512 := by decide +kernel

theorem expos_apply (x : FVec Ideal S512x256 .f32) (r : FVec Ideal S256x8 .f32) (i : Fin 512) (j : Fin 8) : expos x r (ix2 i j) = expo x r i j := by
  unfold expos
  show Ideal.exp (scores x r (ix2 i j) - across _ (ix2 i j)) = _
  have hm : Host.reduce FloatOps.maximumf (scores x r) (constant S_ .f32 0xFF800000#32) reducesTo_S512x8_S512_d1 h_S_ (ix1 i) = _ :=
    (congrFun (hostReduce_maximumf_eq_multiReduction (scores x r) 0xFF800000#32 _ _ reduces8 (.inl rfl) rfl) (ix1 i)).trans
      (Ideal.multiReduction_maximumf_single _ _ reduces8 _ _ (ix1 i))
  rw [across_apply, scores_apply, hm]
  unfold expo top
  congr 2
  refine congrArg (Finset.fold max _ · _) (funext fun k => ?_)
  refine (congrArg (scores x r) (funext fun a => ?_)).trans (scores_apply x r i k)
  match a with | ⟨0, _⟩ => rfl | ⟨1, _⟩ => rfl

theorem probs_apply (x : FVec Ideal S512x256 .f32) (r : FVec Ideal S256x8 .f32) (i : Fin 512) (j : Fin 8) : probs x r (ix2 i j) = prob x r i j := by
  unfold probs
  show Ideal.div (expos x r (ix2 i j)) (across _ (ix2 i j)) = _
  rw [across_apply, expos_apply]
  unfold prob
  congr 1
  show Ideal.hostReduceAdd _ _ (Ideal.ofBits .f32 0x00000000#32) (ix1 i) = _
  rw [Ideal.hostReduceAdd_single _ reduces8, Ideal.ofBits_zero_f32, zero_add]
  refine Finset.sum_congr rfl fun k _ => ?_
  refine (congrArg (expos x r) (funext fun a => ?_)).trans (expos_apply x r i k)
  match a with | ⟨0, _⟩ => rfl | ⟨1, _⟩ => rfl

theorem places_row (idx : IVec S512x1 32) (i : Fin 512) : places idx (ix2 i (0 : Fin 2)) = BitVec.ofNat 32 i.val := by
  unfold places
  rw [concatenate_pair_apply_left (t := S512x2) (s₁ := S512x1) (s₂ := S512x1) 1 _ _ _ (ix2 i (0 : Fin 2)) rfl (ix2 i (0 : Fin 1))
    (fun a => by match a with | ⟨0, _⟩ => rfl | ⟨1, _⟩ => rfl),
    broadcastInDim_apply _ _ _ _ (ix1 i) (fun a => by match a with | ⟨0, _⟩ => rfl)]
  rfl

theorem places_expert (idx : IVec S512x1 32) (i : Fin 512) : places idx (ix2 i (1 : Fin 2)) = idx (ix2 i (0 : Fin 1)) := by
  unfold places
  rw [concatenate_pair_apply_right (t := S512x2) (s₁ := S512x1) (s₂ := S512x1) 1 _ _ _ (ix2 i (1 : Fin 2)) rfl rfl (ix2 i (0 : Fin 1))
    (fun a => by match a with | ⟨0, _⟩ => intro _; rfl | ⟨1, _⟩ => intro h; exact absurd rfl h) rfl,
    broadcastInDim_apply _ _ _ _ (ix1 i) (fun a => by match a with | ⟨0, _⟩ => rfl)]
  exact shapeCast_apply _ _ _ _ (by rw [Shape.rowMajor_val_one, Shape.rowMajor_val_two]; show i.val * 1 + 0 = i.val; omega)

/-- A word read signed lies between 0 and 7 exactly when it is below 8 read unsigned. -/
theorem within (a : BitVec 32) : (0 ≤ a.toInt ∧ a.toInt ≤ 7) ↔ a.toNat < 8 := by
  have := a.isLt
  rw [BitVec.toInt_eq_toNat_cond]
  split <;> omega

theorem lasts_apply (i : Fin 512) (b : Fin 2) : lasts (ix2 i b) = lit0 b := by
  unfold lasts
  rw [broadcastInDim_apply _ _ _ _ (ix2 (0 : Fin 1) b) (fun a => by match a with | ⟨0, _⟩ => rfl | ⟨1, _⟩ => rfl),
    broadcastInDim_apply _ _ _ _ (ix1 b) (fun a => by match a with | ⟨0, _⟩ => rfl)]
  exact congrArg lit0 (Fin.ext (Shape.rowMajor_val_one _))

theorem tests_apply (idx : IVec S512x1 32) (i : Fin 512) (b : Fin 2) :
    tests idx (ix2 i b) = IntOp.andi (IntOp.cmpi .sge (places idx (ix2 i b)) 0#32) (IntOp.cmpi .sle (places idx (ix2 i b)) (lit0 b)) :=
  congrArg (fun z => IntOp.andi (IntOp.cmpi .sge (places idx (ix2 i b)) 0#32) (IntOp.cmpi .sle (places idx (ix2 i b)) z)) (lasts_apply i b)

theorem tests_row (idx : IVec S512x1 32) (i : Fin 512) : tests idx (ix2 i (0 : Fin 2)) = 1#1 := by
  rw [tests_apply, places_row]
  have hi := i.isLt
  have hI : (BitVec.ofNat 32 i.val).toInt = i.val := by
    rw [BitVec.toInt_eq_toNat_cond, BitVec.toNat_ofNat, Nat.mod_eq_of_lt (by omega), if_pos (by omega)]
  show IntOp.andi (BitVec.ofBool ((0#32).sle (BitVec.ofNat 32 i.val))) (BitVec.ofBool ((BitVec.ofNat 32 i.val).sle 511#32)) = _
  rw [show (0#32).sle (BitVec.ofNat 32 i.val) = true from by simp [BitVec.sle, hI],
    show (BitVec.ofNat 32 i.val).sle 511#32 = true from by
      simp only [BitVec.sle, hI, decide_eq_true_eq]; show (i.val : Int) ≤ 511; omega]
  rfl

theorem tests_expert (idx : IVec S512x1 32) (i : Fin 512) : tests idx (ix2 i (1 : Fin 2)) = BitVec.ofBool (decide ((idx (ix2 i 0)).toNat < 8)) := by
  rw [tests_apply, places_expert]
  show IntOp.andi (BitVec.ofBool ((0#32).sle (idx (ix2 i 0)))) (BitVec.ofBool ((idx (ix2 i 0)).sle 7#32)) = _
  rw [WordCmp.andi_ofBool]
  congr 1
  rw [Bool.eq_iff_iff, Bool.and_eq_true, decide_eq_true_eq, ← within]
  simp [BitVec.sle]

/-- The mask: a token's place lies in the table exactly when its index names one of the eight experts. -/
theorem inside_apply (idx : IVec S512x1 32) (i : Fin 512) : inside idx (ix1 i) = BitVec.ofBool (decide ((idx (ix2 i 0)).toNat < 8)) := by
  unfold inside
  rw [Host.reduce_eq_fold_single _ _ _ _ reduces2]
  have hl : ∀ b : Fin 2, (tests idx ∘ reduces2.lift (ix1 i)) b = tests idx (ix2 i b) := fun b =>
    congrArg (tests idx) (funext fun a => by match a with | ⟨0, _⟩ => rfl | ⟨1, _⟩ => rfl)
  have hfold : ∀ g : Fin 2 → BitVec 1, (Finset.univ : Finset (Fin 2)).fold IntOp.andi 1#1 g = IntOp.andi (g 0) (IntOp.andi (g 1) 1#1) := fun g => rfl
  refine (hfold _).trans ?_
  rw [hl, hl, tests_row, tests_expert]
  generalize decide ((idx (ix2 i 0)).toNat < 8) = q
  cases q <;> decide

/-- The table of weights read at the tokens' places. -/
theorem gather8_apply (x : FVec Ideal S512x8 .f32) (p : IVec S512x2 32) (i : Fin 512) :
    Host.gather gather_S512x8_S512x2_S512_n_01_n_n_01_1_11 x p (ix1 i)
      = x (ix2 (⟨min (p (ix2 i 0)).toInt.toNat 511, by omega⟩ : Fin 512) (⟨min (p (ix2 i 1)).toInt.toNat 7, by omega⟩ : Fin 8)) := by
  unfold Host.gather
  congr 1
  funext a
  refine Fin.ext ?_
  show (gather_S512x8_S512x2_S512_n_01_n_n_01_1_11).start (ix1 i) p a + (gather_S512x8_S512x2_S512_n_01_n_n_01_1_11).batchCoord (ix1 i) a
    + (gather_S512x8_S512x2_S512_n_01_n_n_01_1_11).offCoord (ix1 i) a = _
  have hm : a ∈ (gather_S512x8_S512x2_S512_n_01_n_n_01_1_11).startIndexMap := by
    match a with
    | ⟨0, _⟩ => exact List.mem_cons_self
    | ⟨1, _⟩ => exact List.mem_cons_of_mem _ List.mem_cons_self
  rw [GatherDims.batchCoord_eq_zero _ _ _ List.not_mem_nil, GatherDims.offCoord_eq_zero _ _ _ (fun h => ((GatherDims.mem_sKept _ _).mp h).1 hm)]
  simp only [Nat.add_zero]
  unfold GatherDims.start
  rw [dif_pos hm]
  match a, hm with
  | ⟨0, _⟩, hm =>
    refine congrArg (fun q => min (p q).toInt.toNat 511) (funext fun b => Fin.ext ?_)
    match b with | ⟨0, _⟩ => rfl | ⟨1, _⟩ => rfl
  | ⟨1, _⟩, hm =>
    refine congrArg (fun q => min (p q).toInt.toNat 7) (funext fun b => Fin.ext ?_)
    match b with | ⟨0, _⟩ => rfl | ⟨1, _⟩ => rfl

/-- The experts' rows read at the tokens' places. -/
theorem gather512_apply (x : FVec Ideal S512x8x512 .f32) (p : IVec S512x2 32) (i : Fin 512) (h : Fin 512) :
    Host.gather gather_S512x8x512_S512x2_S512x512_1_01_n_n_01_1_11512 x p (ix2 i h)
      = x (ix3 (⟨min (p (ix2 i 0)).toInt.toNat 511, by omega⟩ : Fin 512) (⟨min (p (ix2 i 1)).toInt.toNat 7, by omega⟩ : Fin 8) h) := by
  unfold Host.gather
  congr 1
  funext a
  refine Fin.ext ?_
  show (gather_S512x8x512_S512x2_S512x512_1_01_n_n_01_1_11512).start (ix2 i h) p a + (gather_S512x8x512_S512x2_S512x512_1_01_n_n_01_1_11512).batchCoord (ix2 i h) a
    + (gather_S512x8x512_S512x2_S512x512_1_01_n_n_01_1_11512).offCoord (ix2 i h) a = _
  rw [GatherDims.batchCoord_eq_zero _ _ _ List.not_mem_nil]
  match a with
  | ⟨0, h0⟩ =>
    have hm : (⟨0, h0⟩ : Fin 3) ∈ (gather_S512x8x512_S512x2_S512x512_1_01_n_n_01_1_11512).startIndexMap := List.mem_cons_self
    rw [GatherDims.offCoord_eq_zero _ _ _ (fun h => ((GatherDims.mem_sKept _ _).mp h).1 hm)]
    unfold GatherDims.start
    rw [dif_pos hm]
    refine congrArg (fun q => min (p q).toInt.toNat 511) (funext fun b => Fin.ext ?_)
    match b with | ⟨0, _⟩ => rfl | ⟨1, _⟩ => rfl
  | ⟨1, h1⟩ =>
    have hm : (⟨1, h1⟩ : Fin 3) ∈ (gather_S512x8x512_S512x2_S512x512_1_01_n_n_01_1_11512).startIndexMap := List.mem_cons_of_mem _ List.mem_cons_self
    rw [GatherDims.offCoord_eq_zero _ _ _ (fun h => ((GatherDims.mem_sKept _ _).mp h).1 hm)]
    unfold GatherDims.start
    rw [dif_pos hm]
    refine congrArg (fun q => min (p q).toInt.toNat 7) (funext fun b => Fin.ext ?_)
    match b with | ⟨0, _⟩ => rfl | ⟨1, _⟩ => rfl
  | ⟨2, h2⟩ =>
    unfold GatherDims.start
    rw [dif_neg (show ¬ (⟨2, h2⟩ : Fin 3) ∈ (gather_S512x8x512_S512x2_S512x512_1_01_n_n_01_1_11512).startIndexMap from
      (by decide : ¬ (2 : Fin 3) ∈ ([0, 1] : List (Fin 3))))]
    show 0 + 0 + h.val = h.val
    omega

/-- A token's row is read at the token. -/
theorem row_read (idx : IVec S512x1 32) (i : Fin 512) : (⟨min (places idx (ix2 i 0)).toInt.toNat 511, by omega⟩ : Fin 512) = i := by
  refine Fin.ext ?_
  show min (places idx (ix2 i 0)).toInt.toNat 511 = i.val
  have hi := i.isLt
  rw [places_row, BitVec.toInt_eq_toNat_cond, BitVec.toNat_ofNat, Nat.mod_eq_of_lt (by omega), if_pos (by omega)]
  omega
theorem expert_read (idx : IVec S512x1 32) (i : Fin 512) : (⟨min (places idx (ix2 i 1)).toInt.toNat 7, by omega⟩ : Fin 8) = pick idx i :=
  Fin.ext (by show min (places idx (ix2 i 1)).toInt.toNat 7 = _; rw [places_expert]; rfl)

theorem weight_apply (x : FVec Ideal S512x256 .f32) (r : FVec Ideal S256x8 .f32) (idx : IVec S512x1 32) (i : Fin 512) :
    weight x r idx (ix1 i) = gate x r idx i := by
  unfold weight
  show Scalar.select (inside idx (ix1 i)) (Host.gather gather_S512x8_S512x2_S512_n_01_n_n_01_1_11 (probs x r) (places idx) (ix1 i)) (Ideal.ofBits .f32 0x00000000#32) = _
  rw [gather8_apply, row_read, expert_read, probs_apply, inside_apply, Ideal.ofBits_zero_f32]
  unfold gate Scalar.select
  by_cases h : (idx (ix2 i 0)).toNat < 8
  · rw [if_pos h, if_pos (by simp [h])]
  · rw [if_neg h, if_neg (by simp [h])]

/-- The tokens' products with the experts' weights. -/
theorem products_apply (x : FVec Ideal S512x256 .f32) (w : FVec Ideal S8x256x512 .f32) (i : Fin 512) (e : Fin 8) (h : Fin 512) :
    Host.dotGeneral dot_S512x256_S8x256x512_S512x8x512_1_1_0_02_n_n none x w (ix3 i e h) = ∑ k : Fin 256, x (ix2 i k) * w (ix3 e k h) := by
  simp only [Host.dotGeneral]
  rw [Ideal.dotGeneral_apply, ← Equiv.sum_comp (contrEquiv1 dot_S512x256_S8x256x512_S512x8x512_1_1_0_02_n_n 256 rfl rfl).symm]
  refine Finset.sum_congr rfl fun k _ => ?_
  have hk := contrEquiv1_symm_val dot_S512x256_S8x256x512_S512x8x512_1_1_0_02_n_n 256 rfl rfl k
  congr 1
  · refine congrArg x (funext fun a => Fin.ext ?_)
    match a with
    | ⟨0, _⟩ => rfl
    | ⟨1, _⟩ => exact hk
  · refine congrArg w (funext fun a => Fin.ext ?_)
    match a with
    | ⟨0, _⟩ => rfl
    | ⟨1, _⟩ => exact hk
    | ⟨2, _⟩ => rfl

/-- The reference's result at an index. -/
theorem result_apply (x : FVec Ideal S512x256 .f32) (r : FVec Ideal S256x8 .f32) (idx : IVec S512x1 32) (w : FVec Ideal S8x256x512 .f32) (sh : FVec Ideal S256x512 .f32)
    (i : Fin 512) (h : Fin 512) :
    result x r idx w sh (ix2 i h) = ∑ k : Fin 256, x (ix2 i k) * sh (ix2 k h) + gate x r idx i * ∑ k : Fin 256, x (ix2 i k) * w (ix3 (pick idx i) k h) := by
  have hs : Host.dotGeneral dot_S512x256_S256x512_S512x512_1_0_0_1_n_n none x sh (ix2 i h) = ∑ k : Fin 256, x (ix2 i k) * sh (ix2 k h) := by
    rw [← matmul_zero_eq_dotGeneral]
    show FloatOps.matmul (DotDims.plain 512 256 512) none x sh (constant S512x512 .f32 0x00000000#32) (ix2 i h) = _
    rw [Ideal.matmul_plain_apply]
    show Ideal.ofBits .f32 0x00000000#32 + _ = _
    rw [Ideal.ofBits_zero_f32, zero_add]
  have hw : broadcastInDim S512x512 ![0, 1] bcast_S512x1_S512x512_0_1 (broadcastInDim S512x1 ![0] bcast_S512_S512x1_0 (weight x r idx)) (ix2 i h) = gate x r idx i := by
    rw [broadcastInDim_apply _ _ _ _ (ix2 i (0 : Fin 1)) (fun a => by match a with | ⟨0, _⟩ => rfl | ⟨1, _⟩ => rfl),
      broadcastInDim_apply _ _ _ _ (ix1 i) (fun a => by match a with | ⟨0, _⟩ => rfl), weight_apply]
  have hr : rows x idx w (ix2 i h) = ∑ k : Fin 256, x (ix2 i k) * w (ix3 (pick idx i) k h) := by
    unfold rows
    rw [gather512_apply, row_read, expert_read, products_apply]
  show Host.dotGeneral dot_S512x256_S256x512_S512x512_1_0_0_1_n_n none x sh (ix2 i h)
    + broadcastInDim S512x512 ![0, 1] bcast_S512x1_S512x512_0_1 (broadcastInDim S512x1 ![0] bcast_S512_S512x1_0 (weight x r idx)) (ix2 i h) * rows x idx w (ix2 i h) = _
  rw [hs, hw, hr]

end Cert.ReferenceIdeal.Read

end
-- ==== Proof.Equation.lean ====
/- The kernel's result equals the reference's: each token goes to one expert at most, whose weight, a real number that is not
   negative, moves out of the sum over the token's entries. -/
module

public import proofs.«01_k».proof.Proof.Values
public import proofs.«01_k».proof.Proof.Reference

@[expose] public section

noncomputable section

namespace Cert.Equation

open Idealize.ShloMosaic hiding ix1 ix2 ix3
open Idealize.ShloMosaic.ValueIdx
open Cert.Weights
open Cert.KernelIdeal.Exchange (routed share)
open scoped BigOperators

variable (x : FVec Ideal Cert.KernelIdeal.S512x256 .f32) (r : FVec Ideal Cert.KernelIdeal.S256x8 .f32) (idx : IVec Cert.KernelIdeal.S512x1 32)
  (w : FVec Ideal Cert.ReferenceIdeal.S8x256x512 .f32)

/-- An index that names an expert names the one that the reference reads. -/
theorem named (i : Fin 512) (h : (idx (ix2 i 0)).toNat < 8) (j : Fin 8) : idx (ix2 i 0) = BitVec.ofNat 32 j.val ↔ j = pick idx i := by
  have hp : (pick idx i).val = (idx (ix2 i 0)).toNat := by
    show min (idx (ix2 i 0)).toInt.toNat 7 = _
    rw [BitVec.toInt_eq_toNat_cond, if_pos (by omega)]
    omega
  have hj := j.isLt
  constructor
  · intro e
    apply Fin.ext
    rw [hp, e, BitVec.toNat_ofNat, Nat.mod_eq_of_lt (by omega)]
  · intro e
    apply BitVec.eq_of_toNat_eq
    rw [BitVec.toNat_ofNat, Nat.mod_eq_of_lt (by omega), e, hp]

/-- An index that names no expert is no expert's number. -/
theorem unnamed (i : Fin 512) (h : ¬ (idx (ix2 i 0)).toNat < 8) (j : Fin 8) : ¬ idx (ix2 i 0) = BitVec.ofNat 32 j.val := by
  intro e
  have hj := j.isLt
  rw [e, BitVec.toNat_ofNat, Nat.mod_eq_of_lt (by omega)] at h
  exact h hj

/-- The weight that the kernel selects is the reference's. -/
theorem routed_eq (i : Fin 512) : routed x r idx i = gate x r idx i := by
  unfold routed gate
  by_cases h : (idx (ix2 i 0)).toNat < 8
  · rw [if_pos h]
    refine (Finset.sum_congr rfl fun j _ => if_congr (named idx i h j) rfl rfl).trans ?_
    rw [Finset.sum_ite_eq' Finset.univ (pick idx i) fun j => prob x r i j, if_pos (Finset.mem_univ _)]
  · rw [if_neg h]
    exact Finset.sum_eq_zero fun j _ => if_neg (unnamed idx i h j)

/-- The shares of the eight experts add up to the weighted row of the token's expert. -/
theorem shares (hX : ∀ i, ∃ a : ℝ, x i = a) (hR : ∀ i, ∃ a : ℝ, r i = a) (i h : Fin 512) :
    ∑ e : Fin 8, share x (gate x r idx i) (decide (idx (ix2 i 0) = BitVec.ofNat 32 e.val)) i (fun k => w (ix3 e k h))
      = gate x r idx i * ∑ k : Fin 256, x (ix2 i k) * w (ix3 (pick idx i) k h) := by
  have none (q : EReal) (f : Fin 256 → EReal) : share x q false i f = 0 := by
    unfold share; exact Finset.sum_eq_zero fun k _ => by simp
  by_cases hn : (idx (ix2 i 0)).toNat < 8
  · rw [Finset.sum_eq_single (pick idx i)]
    · rw [decide_eq_true ((named idx i hn _).mpr rfl)]
      obtain ⟨p, hp, hpe⟩ := prob_real hX hR i (pick idx i)
      have hg : gate x r idx i = (p : EReal) := by unfold gate; rw [if_pos hn, hpe]
      rw [hg]
      unfold share
      exact (Finset.sum_congr rfl fun k _ => by simp).trans (sum_scaled hp (fun k => x (ix2 i k)) fun k => w (ix3 (pick idx i) k h))
    · intro j _ hj
      rw [decide_eq_false (fun e => hj ((named idx i hn j).mp e)), none]
    · intro hm; exact absurd (Finset.mem_univ _) hm
  · have hg : gate x r idx i = 0 := by unfold gate; exact if_neg hn
    rw [hg, zero_mul]
    exact Finset.sum_eq_zero fun j _ => by rw [decide_eq_false (unnamed idx i hn j), none]

/-- Eight summands in four pairs. -/
theorem pairs (f : Fin 8 → EReal) (g : Fin 4 → EReal) (hg : ∀ d : Fin 4, g d = f ⟨2 * d.val, by omega⟩ + f ⟨2 * d.val + 1, by omega⟩) : ∑ d, g d = ∑ e, f e := by
  rw [Fin.sum_univ_four, Fin.sum_univ_eight, hg, hg, hg, hg]
  show (f 0 + f 1) + (f 2 + f 3) + (f 4 + f 5) + (f 6 + f 7) = _
  simp only [add_assoc]

end Cert.Equation

end
-- ==== Proof.Body.lean ====
/- The whole body on one device, put together from its parts. -/
module

public import proofs.«01_k».proof.Proof.Parts

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Cert.KernelIdeal Cert.KernelIdeal.Gen

variable {F : FTy → Type} [FloatOps F]

local notation "𝕄" => MT nD τ sig Unit (Elt F) ℕ UU ℕ

variable (P : Dev nD → S512x512.Idx → Elt F .bf16) (K : GSem nD τ sig → ℕ)

theorem bigSep_fin3 (Φ : Fin 3 → sProp 𝕄) : bigSep Finset.univ Φ = iprop(Φ 0 ∗ Φ 1 ∗ Φ 2) :=
  bigSep_univ_eq_bigSepL [0, 1, 2] (by decide) (by decide) Φ

/-- What a device enters the body with: the invariants, what is open, where it stands in its cells, what it may pay. -/
def opened (c : Dev nD) : sProp 𝕄 :=
  iprop(invs P K c ∗ opens c
    ∗ atPos ER (barCell c) 0 ∅ 0
    ∗ (bigSep Finset.univ fun j : Fin 3 => atPos ER (sendCell c j) 0 ∅ 0)
    ∗ (bigSep Finset.univ fun s : Dev nD => atPos ER (recvCell c s) 0 ∅ 0)
    ∗ (bigSep Finset.univ fun j : Fin 3 => dutyTok ER (barCell (pe c j)) 0 c)
    ∗ (bigSep Finset.univ fun j : Fin 3 => dutyTok ER (sendCell c j) 0 0)
    ∗ (bigSep Finset.univ fun j : Fin 3 => dutyTok ER (recvCell (pe c j) c) 0 0))

/-- The credits it waits with. -/
def credits (c : Dev nD) : sProp 𝕄 :=
  iprop(cred (tallyAt (barCell c) () 3) ∗ bigSep Finset.univ fun j : Fin 3 => cred (tallyAt (recvCell c (pe c j)) () N))

/-- The three scratch buffers at contents that nobody chose. -/
def scratch (c : Dev nD) : sProp 𝕄 := iprop((∃ f, pt c cc0_scratch0 f) ∗ (∃ f, pt c partB f) ∗ (∃ f, pt c commB f))

/-- All the semaphores of the kernel at zero. -/
def ownZero (c : Dev nD) : sProp 𝕄 :=
  iprop((bigSep Finset.univ fun j : Fin 3 => semVal (sendCell c j) 0) ∗ (bigSep Finset.univ fun s : Dev nD => semVal (recvCell c s) 0))

section
variable (c : Dev nD) (x : FVec F S512x256 .f32) (r : FVec F S256x8 .f32) (idx : IVec S512x1 32) (ew : FVec F S512x512 .bf16) (sh : FVec F S256x512 .f32)

/-- The staged inputs. -/
def inputs : sProp 𝕄 := iprop(pt c cc0_stg0_0 x ∗ pt c cc0_stg1_0 r ∗ pt c cc0_stg2_0 idx ∗ pt c cc0_stg3_0 ew ∗ pt c cc0_stg4_0 sh)

set_option maxHeartbeats 1000000 in
/-- The body: from its share of the exchange, the inputs and the scratch buffers to the result block, with every
    semaphore back at zero and nothing owed. -/
theorem body_run (hP : P c = partOf c x r idx ew) (W : Waits sig Unit) (o : FVec F S128x512 .bf16) (Kt : PUnit → sProp 𝕄) :
    iprop((opened P K c ∗ credits c ∗ levAts L lv ∗ scratch c ∗ owes (c : Thread nD τ) (O₀ c) W ∗ inputs c x r idx ew sh ∗ pt c cc0_stg5_0 o)
      ∗ ((semVal (barCell c) 0 ∗ ownZero c ∗ scratch c ∗ (∃ W, owes (c : Thread nD τ) (0 : CellTallies nD τ sig Unit) W)
            ∗ inputs c x r idx ew sh ∗ pt c cc0_stg5_0 (outOf P c x sh)) -∗ Kt ⟨⟩))
      ⊢ wp frame (wpE (defs₀ (F := F)) 𝒱₀ (c : Thread nD τ) none) Set.univ (cc0_body xM (Memref.isWhole_whole _) rM (Memref.isWhole_whole _) iM (Memref.isWhole_whole _) eM (Memref.isWhole_whole _) wM (Memref.isWhole_whole _) oM (Memref.isWhole_whole _) aM (Memref.isWhole_whole _) pM (Memref.isWhole_whole _) cM (Memref.isWhole_whole _) cc0_scratch3 cc0_scratch4) Kt := by
  rw [cc0_body_eq_skeleton]; unfold cc0_body_skel
  simp only [Prog.lift, wp_bind]
  refine part1_run c _ (fun v13 v24 v35 => ?_)
  dsimp only
  unfold opened credits scratch inputs
  rw [bigSep_fin3, bigSep_fin3, bigSep_fin3, bigSep_fin3, bigSep_fin3, bigSep_dev c]
  iintro ⟨⟨⟨#HI, #Hr, HatB, ⟨HaS0, HaS1, HaS2⟩, ⟨HaV, HaV0, HaV1, HaV2⟩, ⟨HtB0, HtB1, HtB2⟩, ⟨HtS0, HtS1, HtS2⟩, ⟨HtV0, HtV1, HtV2⟩⟩,
    ⟨HcB, HcV0, HcV1, HcV2⟩, #Hlev, ⟨Hsa, Hsp, Hsc⟩, HO, ⟨Hx, Hrt, Hi, He, Hw⟩, Ho⟩, Hk⟩
  iapply (part2_run P K c W x r idx)
  isplitl [HO HtB0 HtB1 HtB2 Hsc Hx Hrt Hi]
  · isplitr; · iexact HI
    isplitr; · iexact Hr
    isplitl [HO]; · iexact HO
    isplitl [HtB0]; · iexact HtB0
    isplitl [HtB1]; · iexact HtB1
    isplitl [HtB2]; · iexact HtB2
    isplitl [Hsc]; · iexact Hsc
    isplitl [Hx]; · iexact Hx
    isplitl [Hrt]; · iexact Hrt
    iexact Hi
  iintro ⟨HO, Hs, Hx, Hrt, Hi⟩
  dsimp only
  iapply (part3_run P K c W x r idx ew)
  isplitl [HO HcB HatB Hsa Hsp He]
  · isplitr; · iexact HI
    isplitr; · iexact Hlev
    isplitl [HO]; · iexact HO
    isplitl [HcB]; · iexact HcB
    isplitl [HatB]; · iexact HatB
    isplitl [Hsa]; · iexact Hsa
    isplitl [Hsp]; · iexact Hsp
    iexact He
  iintro ⟨HO, HatB, Hb0, Hb1, Hb2, Hsa, Hp, He⟩
  rw [← hP]
  ihave Hp' := (Entails.of_eq (part_parts c (P c))) $$ Hp
  icases Hp' with ⟨Hp, Hp0, Hp1, Hp2⟩
  iapply (part4_run P K c _ x sh)
  isplitl [HO Hb0 Hb1 Hb2 Hp0 Hp1 Hp2 HtS0 HtS1 HtS2 HtV0 HtV1 HtV2 Hx Hw]
  · isplitr; · iexact HI
    isplitr; · iexact Hr
    isplitl [HO]; · iexact HO
    isplitl [Hb0]; · iexact Hb0
    isplitl [Hb1]; · iexact Hb1
    isplitl [Hb2]; · iexact Hb2
    isplitl [Hp0]; · iexact Hp0
    isplitl [Hp1]; · iexact Hp1
    isplitl [Hp2]; · iexact Hp2
    isplitl [HtS0]; · iexact HtS0
    isplitl [HtS1]; · iexact HtS1
    isplitl [HtS2]; · iexact HtS2
    isplitl [HtV0]; · iexact HtV0
    isplitl [HtV1]; · iexact HtV1
    isplitl [HtV2]; · iexact HtV2
    isplitl [Hx]; · iexact Hx
    iexact Hw
  iintro ⟨HO, HcS0, HcS1, HcS2, Hx, Hw⟩
  dsimp only
  iapply (part5_run P K c _)
  isplitl [HO Hp HcV0 HcV1 HcV2 HaV0 HaV1 HaV2]
  · isplitr; · iexact HI
    isplitl [HO]; · iexact HO
    isplitl [Hp]; · iexact Hp
    isplitl [HcV0]; · iexact HcV0
    isplitl [HcV1]; · iexact HcV1
    isplitl [HcV2]; · iexact HcV2
    isplitl [HaV0]; · iexact HaV0
    isplitl [HaV1]; · iexact HaV1
    iexact HaV2
  iintro ⟨⟨%W1, HO⟩, Hp, Hs0, Hs1, Hs2, HaV0, HaV1, HaV2⟩
  dsimp only
  ihave Hc := (Entails.of_eq (comm_parts c (comm P c)).symm) $$ [Hs Hs0 Hs1 Hs2]
  · isplitl [Hs]; · iexact Hs
    isplitl [Hs0]; · iexact Hs0
    isplitl [Hs1]; · iexact Hs1
    iexact Hs2
  iapply (part6_run P K c W1)
  isplitl [HO Hc Ho HcS0 HcS1 HaS0 HaS1]
  · isplitr; · iexact HI
    isplitl [HO]; · iexact HO
    isplitl [Hc]; · iexact Hc
    isplitl [Ho]; · iexact Ho
    isplitl [HcS0]; · iexact HcS0
    isplitl [HcS1]; · iexact HcS1
    isplitl [HaS0]; · iexact HaS0
    iexact HaS1
  iintro ⟨⟨%W2, HO⟩, Hc, Ho, Hp0, Hp1, HaS0, HaS1⟩
  iapply (send_rule P K c 2 sendSem2 W2) $$ [HO HcS2 HaS2]
  · isplitr; · iexact HI
    isplitl [HcS2]; · iexact HcS2
    isplitl [HO]; · iexact HO
    iexact HaS2
  iintro ⟨HO, HaS2, Hp2⟩
  ihave Hp' := (Entails.of_eq (part_parts c (P c)).symm) $$ [Hp Hp0 Hp1 Hp2]
  · isplitl [Hp]; · iexact Hp
    isplitl [Hp0]; · iexact Hp0
    isplitl [Hp1]; · iexact Hp1
    iexact Hp2
  simp only [Prog.pure_eq_ret, Prog.bind_ret]
  rw [wp_ret]
  imod (close P K (barCell c)) $$ [HatB] with HzB
  · isplitr; · iapply (inv_bar P K c); iexact HI
    iexact HatB
  imod (close P K (sendCell c 0)) $$ [HaS0] with HzS0
  · isplitr; · iapply (inv_send P K c 0); iexact HI
    iexact HaS0
  imod (close P K (recvCell c (pe c 0))) $$ [HaV0] with HzV0
  · isplitr; · iapply (inv_recv P K c (pe c 0)); iexact HI
    iexact HaV0
  imod (close P K (sendCell c 1)) $$ [HaS1] with HzS1
  · isplitr; · iapply (inv_send P K c 1); iexact HI
    iexact HaS1
  imod (close P K (recvCell c (pe c 1))) $$ [HaV1] with HzV1
  · isplitr; · iapply (inv_recv P K c (pe c 1)); iexact HI
    iexact HaV1
  imod (close P K (sendCell c 2)) $$ [HaS2] with HzS2
  · isplitr; · iapply (inv_send P K c 2); iexact HI
    iexact HaS2
  imod (close P K (recvCell c (pe c 2))) $$ [HaV2] with HzV2
  · isplitr; · iapply (inv_recv P K c (pe c 2)); iexact HI
    iexact HaV2
  imod (close_own P K c) $$ [HaV] with HzV
  · isplitr; · iapply (inv_recv P K c c); iexact HI
    iexact HaV
  imodintro
  rw [wp_ret]
  imodintro
  iapply Hk
  unfold ownZero
  rw [bigSep_fin3, bigSep_dev c]
  isplitl [HzB]; · iexact HzB
  isplitl [HzS0 HzS1 HzS2 HzV HzV0 HzV1 HzV2]
  · isplitl [HzS0 HzS1 HzS2]
    · isplitl [HzS0]; · iexact HzS0
      isplitl [HzS1]; · iexact HzS1
      iexact HzS2
    isplitl [HzV]; · iexact HzV
    isplitl [HzV0]; · iexact HzV0
    isplitl [HzV1]; · iexact HzV1
    iexact HzV2
  isplitl [Hsa Hp' Hc]
  · isplitl [Hsa]; · iexact Hsa
    isplitl [Hp']; · iexists _; iexact Hp'
    iexists _; iexact Hc
  isplitl [HO]; · iexists _; iexact HO
  isplitl [Hx Hrt Hi He Hw]
  · isplitl [Hx]; · iexact Hx
    isplitl [Hrt]; · iexact Hrt
    isplitl [Hi]; · iexact Hi
    isplitl [He]; · iexact He
    iexact Hw
  iexact Ho

end

end Cert.KernelIdeal.Exchange

end
-- ==== Proof.Deal.lean ====
/- What the launch deals: every cell's invariant, the receive and send cells still shut, to each device its positions,
   its rights to open, the duties that it pays and the credits that it waits with. -/
module

public import proofs.«01_k».proof.Proof.Body
public import Idealize.ShloMosaic.Harness.Basic
public import Idealize.ShloMosaic.Lib.Quiescent

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (P : Dev nD → S512x512.Idx → Elt F .bf16)

/-! ## The kernel's own semaphores -/

/-- The kernel's own semaphores: three for sending, then four for receiving. -/
def osem (k : Fin 7) : SemLoc sig := .dma ⟨6 + k.val, by have := k.isLt; show 6 + k.val < 13; omega⟩

theorem osem_facts : Pipeline.OwnSemFacts (pcfgs (F := F) 0).spec osem := (by decide : Pipeline.OwnSemFacts spec0 osem)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_dev4 (Φ : Dev nD → sProp 𝕄) : bigSep Finset.univ Φ = iprop(Φ 0 ∗ Φ 1 ∗ Φ 2 ∗ Φ 3) :=
  bigSep_univ_eq_bigSepL [0, 1, 2, 3] (by decide) (by decide) Φ

theorem osem_eq : osem 0 = .dma (sendS 0) ∧ osem 1 = .dma (sendS 1) ∧ osem 2 = .dma (sendS 2) ∧ osem 3 = .dma (recvS 0)
    ∧ osem 4 = .dma (recvS 1) ∧ osem 5 = .dma (recvS 2) ∧ osem 6 = .dma (recvS 3) := by decide

/-- A statement for each of them is one for each send cell and one for each receive cell. -/
theorem own_split (c : Dev nD) (Φ : GSem nD τ sig → sProp 𝕄) :
    (bigSep Finset.univ fun k : Fin 7 => Φ ((c : Thread nD τ), osem k))
      ⊢ iprop((bigSep Finset.univ fun j : Fin 3 => Φ (sendCell c j)) ∗ bigSep Finset.univ fun s : Dev nD => Φ (recvCell c s)) := by
  obtain ⟨e0, e1, e2, e3, e4, e5, e6⟩ := osem_eq
  rw [bigSep_fin7, bigSep_fin3, bigSep_dev4, e0, e1, e2, e3, e4, e5, e6]
  iintro ⟨H0, H1, H2, H3, H4, H5, H6⟩
  isplitl [H0 H1 H2]
  · isplitl [H0]; · iexact H0
    isplitl [H1]; · iexact H1
    iexact H2
  isplitl [H3]; · iexact H3
  isplitl [H4]; · iexact H4
  isplitl [H5]; · iexact H5
  iexact H6
theorem own_join (c : Dev nD) (Φ : GSem nD τ sig → sProp 𝕄) :
    iprop((bigSep Finset.univ fun j : Fin 3 => Φ (sendCell c j)) ∗ bigSep Finset.univ fun s : Dev nD => Φ (recvCell c s))
      ⊢ (bigSep Finset.univ fun k : Fin 7 => Φ ((c : Thread nD τ), osem k)) := by
  obtain ⟨e0, e1, e2, e3, e4, e5, e6⟩ := osem_eq
  rw [bigSep_fin7, bigSep_fin3, bigSep_dev4, e0, e1, e2, e3, e4, e5, e6]
  iintro ⟨⟨H0, H1, H2⟩, H3, H4, H5, H6⟩
  isplitl [H0]; · iexact H0
  isplitl [H1]; · iexact H1
  isplitl [H2]; · iexact H2
  isplitl [H3]; · iexact H3
  isplitl [H4]; · iexact H4
  isplitl [H5]; · iexact H5
  iexact H6

/-! ## From what is dealt to what the body starts with -/

/-- What a device is dealt. -/
def dealt (K : GSem nD τ sig → ℕ) (c : Dev nD) : sProp 𝕄 :=
  iprop(invs P K c ∗ (∀ j : Fin 3, reached ER (barCell (pe c j)) 0)
    ∗ atPos ER (barCell c) 0 ∅ 0
    ∗ ((bigSep Finset.univ fun j : Fin 3 => openTok ER (sendCell c j)) ∗ bigSep Finset.univ fun s : Dev nD => openTok ER (recvCell c s))
    ∗ (bigSep Finset.univ fun j : Fin 3 => dutyTok ER (barCell (pe c j)) 0 c)
    ∗ (bigSep Finset.univ fun j : Fin 3 => dutyTok ER (sendCell c j) 0 0)
    ∗ (bigSep Finset.univ fun j : Fin 3 => dutyTok ER (recvCell (pe c j) c) 0 0))

/-- Opening a family of shut cells, with their counters at zero. -/
theorem open_cells {I : Type} [Fintype I] [DecidableEq I] (K : GSem nD τ sig → ℕ) (c : Dev nD) (g : I → GSem nD τ sig)
    (h : ∀ i, invs P K c ⊢ (cellInv ER (sched P) (K (g i)) (g i) : sProp 𝕄)) :
    iprop(invs P K c ∗ (bigSep Finset.univ fun i => openTok ER (g i)) ∗ bigSep Finset.univ fun i => semVal (g i) 0)
      ⊢ (|={Set.univ}=> iprop((bigSep Finset.univ fun i => atPos ER (g i) 0 ∅ 0) ∗ bigSep Finset.univ fun i => reached ER (g i) 0) : sProp 𝕄) := by
  rw [← bigSep_sep', ← bigSep_sep']
  refine (bigSep_with_persistent (R := invs P K c) (Ψ := fun i => iprop(|={Set.univ}=> (atPos ER (g i) 0 ∅ 0 ∗ reached ER (g i) 0))) fun i _ => ?_).trans (bigSep_fupd _ _)
  iintro ⟨#HI, Ho, Hv⟩
  iapply (Rounds.cell_open ER (sched P) (Set.mem_univ (K (g i))))
  isplitr; · iapply (h i); iexact HI
  isplitl [Ho]; · iexact Ho
  iexact Hv

theorem all_of_bigSep {I : Type} [Fintype I] [DecidableEq I] (Φ : I → sProp 𝕄) : bigSep Finset.univ Φ ⊢ iprop(∀ i, Φ i) :=
  forall_intro fun i => bigSep_elim (Finset.mem_univ i)

/-- With the own semaphores at zero, the send and the receive cells are opened. -/
theorem open_all (K : GSem nD τ sig → ℕ) (c : Dev nD) :
    iprop(dealt P K c ∗ Pipeline.ownSems0 osem c) ⊢ (|={Set.univ}=> opened P K c : sProp 𝕄) := by
  unfold dealt opened opens Pipeline.ownSems0
  iintro ⟨⟨#HI, #Hr, HaB, ⟨HoS, HoV⟩, Ht⟩, Hs⟩
  ihave Hs' := (own_split c fun g => (semVal g 0 : sProp 𝕄)) $$ Hs
  icases Hs' with ⟨HsS, HsV⟩
  imod (open_cells P K c (fun j : Fin 3 => sendCell c j) (inv_send P K c)) $$ [HoS HsS] with ⟨HaS, #HrS⟩
  · isplitr; · iexact HI
    isplitl [HoS]; · iexact HoS
    iexact HsS
  imod (open_cells P K c (fun s : Dev nD => recvCell c s) (inv_recv P K c)) $$ [HoV HsV] with ⟨HaV, #HrV⟩
  · isplitr; · iexact HI
    isplitl [HoV]; · iexact HoV
    iexact HsV
  imodintro
  isplitr; · iexact HI
  isplitr
  · isplitr; · iexact Hr
    isplitr; · iapply (all_of_bigSep fun j : Fin 3 => (reached ER (sendCell c j) 0 : sProp 𝕄)); iexact HrS
    iapply (all_of_bigSep fun s : Dev nD => (reached ER (recvCell c s) 0 : sProp 𝕄)); iexact HrV
  isplitl [HaB]; · iexact HaB
  isplitl [HaS]; · iexact HaS
  isplitl [HaV]; · iexact HaV
  iexact Ht

/-! ## The cells and the tokens of the launch -/

theorem bar_inj : Function.Injective (fun c : Dev nD => barCell c) := fun _ _ h => congrArg (fun g : GSem nD τ sig => g.1.1) h
theorem osem_inj : Function.Injective osem := by decide
theorem own_inj : Function.Injective (fun ck : Dev nD × Fin 7 => (((ck.1 : Thread nD τ), osem ck.2) : GSem nD τ sig)) := fun _ _ h =>
  Prod.ext (congrArg (fun g : GSem nD τ sig => g.1.1) h) (osem_inj (congrArg Prod.snd h))

/-- The barrier cells; the kernel's own cells. -/
def barCells : Finset (GSem nD τ sig) := Finset.univ.map ⟨fun c : Dev nD => barCell c, bar_inj⟩
def ownCells : Finset (GSem nD τ sig) := Finset.univ.map ⟨fun ck : Dev nD × Fin 7 => (((ck.1 : Thread nD τ), osem ck.2) : GSem nD τ sig), own_inj⟩

theorem osem_ne_bar : ∀ k : Fin 7, osem k ≠ .reg barS := by decide
theorem cells_disjoint : Disjoint barCells ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem bar_mem (c : Dev nD) : barCell c ∈ barCells ∪ ownCells := Finset.mem_union_left _ (Finset.mem_map_of_mem _ (Finset.mem_univ c))
theorem send_mem (c : Dev nD) (j : Fin 3) : sendCell c j ∈ barCells ∪ ownCells := by
  refine Finset.mem_union_right _ (Finset.mem_map.mpr ⟨(c, ⟨j.val, by omega⟩), Finset.mem_univ _, ?_⟩); rfl
theorem recv_mem (c s : Dev nD) : recvCell c s ∈ barCells ∪ ownCells := by
  refine Finset.mem_union_right _ (Finset.mem_map.mpr ⟨(c, ⟨3 + s.val, by have : s.val < 4 := s.isLt; omega⟩), Finset.mem_univ _, ?_⟩)
  refine Prod.ext rfl (congrArg SemLoc.dma (Fin.ext ?_))
  show 6 + (3 + s.val) = 9 + s.val
  omega

/-- The duties, by who pays them: device `c` pays, for each peer, one on the peer's barrier, one on an own send cell and
    one on a receive cell of the peer. -/
def tokOf (x : Dev nD × Fin 3 × Fin 3) : GSem nD τ sig × ℕ × Dev nD :=
  (![barCell (pe x.1 x.2.2), sendCell x.1 x.2.2, recvCell (pe x.1 x.2.2) x.1] x.2.1, 0, ![x.1, 0, 0] x.2.1)
theorem tokOf_inj : Function.Injective tokOf := by decide +kernel
def toks : Finset (GSem nD τ sig × ℕ × Dev nD) := Finset.univ.map ⟨tokOf, tokOf_inj⟩

theorem toks_eq : bigSep toks (fun x => (dutyTok ER x.1 x.2.1 x.2.2 : sProp 𝕄))
    = bigSep Finset.univ fun c : Dev nD => iprop((bigSep Finset.univ fun j : Fin 3 => dutyTok ER (barCell (pe c j)) 0 c)
        ∗ (bigSep Finset.univ fun j : Fin 3 => dutyTok ER (sendCell c j) 0 0)
        ∗ (bigSep Finset.univ fun j : Fin 3 => dutyTok ER (recvCell (pe c j) c) 0 0)) := by
  unfold toks; rw [bigSep_map, bigSep_univ_prod]
  exact bigSep_congr fun c _ => by rw [bigSep_univ_prod, bigSep_fin3]; rfl

/-- The ghost state of the launch: the staging cells' and the exchange's. -/
def u₀ : UU := (initOf (Pipeline.cells cfgs cellOf_inj) (Pipeline.launchToks cfgs cellOf_inj), launchOf barCells ownCells toks)

/-- What every device may look up: all invariants, and that every barrier cell has begun. -/
def records (κ : GSem nD τ sig → ℕ) : sProp 𝕄 :=
  iprop((bigSep (barCells ∪ ownCells) fun g => cellInv ER (sched P) (κ g) g) ∗ bigSep barCells fun g => reached ER g 0)
instance records_persistent (κ : GSem nD τ sig → ℕ) : BI.Persistent (records P κ) := by unfold records; infer_instance

theorem inv_at (κ : GSem nD τ sig → ℕ) {g : GSem nD τ sig} (hg : g ∈ barCells ∪ ownCells) : records P κ ⊢ (cellInv ER (sched P) (κ g) g : sProp 𝕄) := by
  unfold records; exact sep_elim_left.trans (bigSep_elim hg)
theorem reached_at (κ : GSem nD τ sig → ℕ) (c : Dev nD) : records P κ ⊢ (reached ER (barCell c) 0 : sProp 𝕄) := by
  unfold records; exact sep_elim_right.trans (bigSep_elim (Finset.mem_map_of_mem _ (Finset.mem_univ c)))

theorem invs_of (κ : GSem nD τ sig → ℕ) (c : Dev nD) : records P κ ⊢ (invs P κ c : sProp 𝕄) := by
  unfold invs
  iintro #HI
  isplitr; · iapply (inv_at P κ (bar_mem c)); iexact HI
  isplitr; · iintro %j; iapply (inv_at P κ (send_mem c j)); iexact HI
  isplitr; · iintro %s; iapply (inv_at P κ (recv_mem c s)); iexact HI
  isplitr; · iintro %j; iapply (inv_at P κ (bar_mem (pe c j))); iexact HI
  iintro %j; iapply (inv_at P κ (recv_mem (pe c j) c)); iexact HI

/-- What stays with one device. -/
def linear (c : Dev nD) : sProp 𝕄 :=
  iprop(atPos ER (barCell c) 0 ∅ 0 ∗ (bigSep Finset.univ fun k : Fin 7 => openTok ER ((c : Thread nD τ), osem k))
    ∗ (bigSep Finset.univ fun j : Fin 3 => dutyTok ER (barCell (pe c j)) 0 c)
    ∗ (bigSep Finset.univ fun j : Fin 3 => dutyTok ER (sendCell c j) 0 0)
    ∗ (bigSep Finset.univ fun j : Fin 3 => dutyTok ER (recvCell (pe c j) c) 0 0))

theorem dealt_intro (κ : GSem nD τ sig → ℕ) (c : Dev nD) : iprop(records P κ ∗ linear c) ⊢ (dealt P κ c : sProp 𝕄) := by
  unfold linear dealt
  iintro ⟨#HR, HaB, Ho, Ht⟩
  isplitr; · iapply (invs_of P κ c); iexact HR
  isplitr; · iintro %j; iapply (reached_at P κ (pe c j)); iexact HR
  isplitl [HaB]; · iexact HaB
  isplitl [Ho]; · iapply (own_split c fun g => (openTok ER g : sProp 𝕄)); iexact Ho
  iexact Ht

/-! ## The credits -/

theorem bar_iff {a b : Dev nD} : barCell a = barCell b ↔ a = b := ⟨fun h => bar_inj h, fun h => h ▸ rfl⟩
theorem recv_iff {a s b t : Dev nD} : recvCell a s = recvCell b t ↔ a = b ∧ s = t := by
  revert a s b t; decide +kernel
theorem recv_ne_bar (a s b : Dev nD) : ¬ recvCell a s = barCell b := by revert a s b; decide +kernel
theorem bar_ne_recv (a s b : Dev nD) : ¬ barCell b = recvCell a s := fun h => recv_ne_bar a s b h.symm

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same]
  unfold O₀ Orecv
  simp only [Pi.add_apply, Finsupp.add_apply, tallyAt_apply, bar_ne_recv, bar_iff, and_true, false_and, if_false, Nat.zero_add]
  revert c; decide +kernel
theorem launch_recv (c : Dev nD) (j : Fin 3) :
    tallyOn (recvCell c (pe c j)) (launchCredit (Pipeline.owing O₀) 0 (recvCell c (pe c j))) = (tallyAt (recvCell c (pe c j)) () N : CellTallies nD τ sig Unit) := by
  unfold tallyAt; refine congrArg _ (Finsupp.ext fun u => ?_); cases u
  rw [Pipeline.launchCredit_owing, Finsupp.single_eq_same]
  unfold O₀ Orecv
  simp only [Pi.add_apply, Finsupp.add_apply, tallyAt_apply, recv_ne_bar, recv_iff, and_true, false_and, if_false, Nat.add_zero]
  generalize N = n
  rw [Finset.sum_eq_single (pe c j) (fun d _ hd => by simp only [Ne.symm hd, and_false, if_false, Nat.add_zero]) (fun h => absurd (Finset.mem_univ _) h)]
  have h0 : (if c = pe (pe c j) 2 ∧ pe c j = pe c j then n else 0) + (if c = pe (pe c j) 1 ∧ pe c j = pe c j then n else 0) + (if c = pe (pe c j) 0 ∧ pe c j = pe c j then n else 0) = n := by
    have h : (c = pe (pe c j) 2 ∧ ¬ c = pe (pe c j) 1 ∧ ¬ c = pe (pe c j) 0) ∨ (¬ c = pe (pe c j) 2 ∧ c = pe (pe c j) 1 ∧ ¬ c = pe (pe c j) 0)
      ∨ (¬ c = pe (pe c j) 2 ∧ ¬ c = pe (pe c j) 1 ∧ c = pe (pe c j) 0) := by revert c j; decide +kernel
    simp only [_root_.and_true]
    rcases h with ⟨h1, h2, h3⟩ | ⟨h1, h2, h3⟩ | ⟨h1, h2, h3⟩
    · rw [if_pos h1, if_neg h2, if_neg h3]; omega
    · rw [if_neg h1, if_pos h2, if_neg h3]; omega
    · rw [if_neg h1, if_neg h2, if_pos h3]; omega
  exact h0

def waited (c : Dev nD) : Finset (SemLoc sig) := {.reg barS, .dma (recvS (pe c 0)), .dma (recvS (pe c 1)), .dma (recvS (pe c 2))}

/-- The launch gives a device the credits it waits with. -/
theorem creds (c : Dev nD) : (Pipeline.launchCred O₀ c : sProp 𝕄) ⊢ credits c := by
  unfold Pipeline.launchCred credits
  rw [bigSep_fin3]
  refine (bigSep_subset (Finset.subset_univ (waited c))).trans ?_
  unfold waited
  rw [bigSep_insert (by revert c; decide +kernel), bigSep_insert (by revert c; decide +kernel), bigSep_insert (by revert c; decide +kernel), bigSep_singleton,
    launch_bar, launch_recv, launch_recv, launch_recv]
  exact BI.Entails.refl _

/-! ## The launch step -/

/-- The buffers that live through the whole program. -/
def bufs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What a device holds beside the buffers until it enters the kernel. -/
def riding (c : Dev nD) : sProp 𝕄 := iprop((∃ K, dealt P K c) ∗ credits c ∗ (∃ r, prngReg c r) ∗ ∃ W, owes (c : Thread nD τ) (O₀ c) W)

/-- All of a resource on device 0. -/
def onZero (X : sProp 𝕄) (c : Dev nD) : sProp 𝕄 := if c = 0 then X else iprop(emp)
theorem bigSep_onZero (X : sProp 𝕄) : bigSep Finset.univ (onZero X) = X := by
  rw [bigSep_univ_at _ (0 : Dev nD), bigSep_congr (s := Finset.univ.erase (0 : Dev nD)) (Ψ := fun _ => (BI.emp : sProp 𝕄))
      fun c hc => by unfold onZero; rw [if_neg (Finset.ne_of_mem_erase hc)]; rfl, BI.bigSep_emp_const]
  unfold onZero; rw [if_pos rfl]
  exact BI.equiv_iff.mp sep_emp

def seed : Dev nD → sProp 𝕄 := onZero (BI.own (ER (launchOf barCells ownCells toks)))

variable (m : (ℓ : Loc nD τ sig) → Buf (Elt F) ℓ) (ρ : Dev nD → PrngReg)

/-- The buffers' contents at launch. -/
def V₀ (c : Dev nD) : Valuation τ sig (Elt F) := fun b => m (c, b)

/-- From what the machine starts with to what the devices start with. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ seed c)) ∗ levAts L lv)
      ⊢ (|={Set.univ}=> bigSep Finset.univ fun c : Dev nD => iprop(StableHlo.held (c : Thread nD τ) bufs (V₀ m c) ∗ riding P c) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ seed c)
      ⊢ (iprop((StableHlo.held (c : Thread nD τ) bufs (V₀ m c) ∗ credits c ∗ (∃ r, prngReg c r) ∗ ∃ W, owes (c : Thread nD τ) (O₀ c) W)
          ∗ (semVal (barCell c) 0 ∗ seed c)) : sProp 𝕄) := by
    rw [show unscopedBufs c (fun b => m ((c : Thread nD τ).loc b)) = StableHlo.held (c : Thread nD τ) bufs (V₀ m c) from unscopedBufs_held c (V₀ m c),
      unscopedSems0_eq]
    iintro ⟨Hh, Hus, HO, Hcr, Hp, HG⟩
    isplitl [Hh HO Hcr Hp]
    · isplitl [Hh]; · iexact Hh
      isplitl [Hcr]; · iapply (creds (F := F) c); iexact Hcr
      isplitl [Hp]; · iexists _; iexact Hp
      iexists _; iexact HO
    isplitl [Hus]; · iexact Hus
    iexact HG
  have hv : bigSep Finset.univ (fun c : Dev nD => (semVal (barCell c) 0 : sProp 𝕄)) ⊢ bigSep barCells (fun g => (semVal g 0 : sProp 𝕄)) :=
    Entails.of_eq (bigSep_map (s := Finset.univ) ⟨fun c : Dev nD => barCell c, bar_inj⟩ (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) ⟨fun c : Dev nD => barCell c, bar_inj⟩ (Φ := fun g : GSem nD τ sig => (atPos ER g 0 ∅ 0 : sProp 𝕄)))
  have hopen : bigSep ownCells (fun g => (openTok ER g : sProp 𝕄))
      ⊢ bigSep Finset.univ (fun c : Dev nD => bigSep Finset.univ fun k : Fin 7 => openTok ER ((c : Thread nD τ), osem k)) :=
    Entails.of_eq (by unfold ownCells; rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ seed c))
      ⊢ (bigSep Finset.univ fun c : Dev nD => iprop((StableHlo.held (c : Thread nD τ) bufs (V₀ m c) ∗ credits c ∗ (∃ r, prngReg c r) ∗ ∃ W, owes (c : Thread nD τ) (O₀ c) W)
          ∗ (semVal (barCell c) 0 ∗ seed c)) : sProp 𝕄) from bigSep_mono fun c _ => hcore c) $$ H
  ihave H2 := Smoke.bigSep_unpair $$ H'; icases H2 with ⟨HB, H3⟩
  ihave H4 := Smoke.bigSep_unpair $$ H3; icases H4 with ⟨Hv, HG⟩
  ihave Hu := (show bigSep Finset.univ (seed (F := F)) ⊢ BI.own (ER (launchOf barCells ownCells toks)) from
    Entails.of_eq (bigSep_onZero (F := F) _)) $$ HG
  imod (Rounds.fund_launch ER (sched P) cells_disjoint (fun g _ h => h) toks) $$ [Hv Hu] with ⟨%κ, -, #Hinv, #Hr, Hat, Hopen, Htok⟩
  · isplitl [Hv]
    · iapply hv $$ Hv
    · iexact Hu
  imodintro
  iapply (bigSep_with_persistent (R := records P κ) (Φ := fun c => iprop(linear c ∗ (StableHlo.held (c : Thread nD τ) bufs (V₀ m c) ∗ credits c ∗ (∃ r, prngReg c r) ∗ ∃ W, owes (c : Thread nD τ) (O₀ c) W)))
    (Ψ := fun c : Dev nD => iprop(StableHlo.held (c : Thread nD τ) bufs (V₀ m c) ∗ riding P c))
    fun c _ => by
      unfold riding
      iintro ⟨#HR, Hl, Hh, Hc, Hp, HO⟩
      isplitl [Hh]; · iexact Hh
      isplitl [Hl]
      · iexists κ; iapply (dealt_intro P κ c)
        isplitr; · iexact HR
        iexact Hl
      isplitl [Hc]; · iexact Hc
      isplitl [Hp]; · iexact Hp
      iexact HO)
  isplitr
  · unfold records
    isplitr; · iexact Hinv
    iexact Hr
  iapply Smoke.bigSep_pair
  isplitr [HB]
  · unfold linear
    iapply Smoke.bigSep_pair; isplitl [Hat]; · iapply hat $$ Hat
    iapply Smoke.bigSep_pair; isplitl [Hopen]; · iapply hopen $$ Hopen
    iapply (Entails.of_eq (toks_eq (F := F))) $$ Htok
  · iexact HB

end Cert.KernelIdeal.Exchange

end
-- ==== Proof.Run.lean ====
/- The run of the whole program on the four devices: its buffers at the end, and every semaphore back at zero. -/
module

public import proofs.«01_k».proof.Proof.Deal

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- What the input windows stage. -/
def xIn (c : Dev nD) : FVec F S512x256 .f32 := iblk m c 0 t0_0
def rIn (c : Dev nD) : FVec F S256x8 .f32 := iblk m c 1 t0_0
def iIn (c : Dev nD) : IVec S512x1 32 := iblk m c 2 t0_0
def eIn (c : Dev nD) : FVec F S512x512 .bf16 := iblk m c 3 t0_0
def wIn (c : Dev nD) : FVec F S256x512 .f32 := iblk m c 4 t0_0

/-- Every device's partial result. -/
def parts (c : Dev nD) : S512x512.Idx → Elt F .bf16 := partOf c (xIn m c) (rIn m c) (iIn m c) (eIn m c)
/-- Every device's result block. -/
def block (c : Dev nD) : FVec F S128x512 .bf16 := outOf (parts m) c (xIn m c) (wIn m c)

/-! ## The region's data -/

def before (c : Dev nD) : sProp 𝕄 :=
  iprop((∃ K, opened (parts m) K c) ∗ credits c ∗ levAts L lv ∗ scratch c ∗ ∃ r, prngReg c r)
def past (c : Dev nD) : sProp 𝕄 := iprop(semVal (barCell c) 0 ∗ ownZero c ∗ scratch (F := F) c ∗ ∃ r, prngReg c r)

def dat (c : Dev nD) : Dat τ (Elt F) Unit ℕ UU ℕ cfg0 c where
  A w := V m c (Pipeline.arrRef spec0 w)
  after w _ := match w with
    | ⟨0, _⟩ => xIn m c
    | ⟨1, _⟩ => rIn m c
    | ⟨2, _⟩ => iIn m c
    | ⟨3, _⟩ => eIn m c
    | ⟨4, _⟩ => wIn m c
    | ⟨5, _⟩ => block m c
  Φ t := if t.val = 0 then before m c else past c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem owed_first (c : Dev nD) : (dat m c).owed t0_0.castSucc = O₀ c := by
  show (if (t0_0.castSucc : Fin (cfg0.N + 1)).val = 0 then O₀ c else 0) = O₀ c; exact if_pos rfl
theorem owed_zero (c : Dev nD) : (pdats m 0 c).owed 0 = O₀ c := by
  show (if ((0 : Fin (cfg0.N + 1)).val = 0) then O₀ c else 0) = O₀ c; exact if_pos rfl
theorem owed_last (c : Dev nD) : (pdats m 0 c).owed (Fin.last _) = 0 := by
  show (if (Fin.last cfg0.N).val = 0 then O₀ c else 0) = 0
  rw [Fin.val_last, if_neg (by rw [show cfg0.N = 1 from N_0]; decide)]

theorem owesAt_intro {c : Dev nD} (t : Fin (cfg0.N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin; rw [h0]
  iintro HO; iexists W; isplitr; · ipureintro; exact fun _ _ => Or.inl trivial
  iexact HO
theorem owesAt_elim {c : Dev nD} (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(before m c ∗ (dat m c).owesAt () t0_0.castSucc
    ∗ (∃ d, stg c cc0_stg0_0 ((dat m c).before (0 : Fin 6) t0_0 d))
    ∗ (∃ d, stg c cc0_stg1_0 ((dat m c).before (1 : Fin 6) t0_0 d))
    ∗ (∃ d, stg c cc0_stg2_0 ((dat m c).before (2 : Fin 6) t0_0 d))
    ∗ (∃ d, stg c cc0_stg3_0 ((dat m c).before (3 : Fin 6) t0_0 d))
    ∗ (∃ d, stg c cc0_stg4_0 ((dat m c).before (4 : Fin 6) t0_0 d))
    ∗ (∃ d, stg c cc0_stg5_0 ((dat m c).before (5 : Fin 6) t0_0 d)))
def bodyPost (c : Dev nD) : sProp 𝕄 :=
  iprop(past c ∗ (dat m c).owesAt () t0_0.succ ∗ stg c cc0_stg0_0 (xIn m c) ∗ stg c cc0_stg1_0 (rIn m c) ∗ stg c cc0_stg2_0 (iIn m c)
    ∗ stg c cc0_stg3_0 (eIn m c) ∗ stg c cc0_stg4_0 (wIn m c) ∗ stg c cc0_stg5_0 (block m c))

theorem before_0 (c : Dev nD) (d) : (dat m c).before (0 : Fin 6) t0_0 d = xIn m c := by unfold Dat.before; rw [if_pos (fetch0_0 t0_0)]; rfl
theorem before_1 (c : Dev nD) (d) : (dat m c).before (1 : Fin 6) t0_0 d = rIn m c := by unfold Dat.before; rw [if_pos (fetch0_1 t0_0)]; rfl
theorem before_2 (c : Dev nD) (d) : (dat m c).before (2 : Fin 6) t0_0 d = iIn m c := by unfold Dat.before; rw [if_pos (fetch0_2 t0_0)]; rfl
theorem before_3 (c : Dev nD) (d) : (dat m c).before (3 : Fin 6) t0_0 d = eIn m c := by unfold Dat.before; rw [if_pos (fetch0_3 t0_0)]; rfl
theorem before_4 (c : Dev nD) (d) : (dat m c).before (4 : Fin 6) t0_0 d = wIn m c := by unfold Dat.before; rw [if_pos (fetch0_4 t0_0)]; rfl

set_option maxHeartbeats 1000000 in
theorem sound (c : Dev nD) : bodyPre m c ⊢ wp frame (wpE (defs₀ (F := F)) 𝒱₀ (c : Thread nD τ) none) Set.univ
    (cc0_body xM (Memref.isWhole_whole _) rM (Memref.isWhole_whole _) iM (Memref.isWhole_whole _) eM (Memref.isWhole_whole _) wM (Memref.isWhole_whole _) oM (Memref.isWhole_whole _) aM (Memref.isWhole_whole _) pM (Memref.isWhole_whole _) cM (Memref.isWhole_whole _) cc0_scratch3 cc0_scratch4)
    (fun _ => bodyPost m c) := by
  unfold bodyPre before
  iintro ⟨⟨⟨%K, Hg⟩, Hcr, Hlev, Hs, Hp⟩, HO, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  rw [before_0] at h0; rw [before_1] at h1; rw [before_2] at h2; rw [before_3] at h3; rw [before_4] at h4
  subst h0 h1 h2 h3 h4
  ihave HO' := (owesAt_elim m t0_0.castSucc (O₀ c) (owed_first m c)) $$ HO
  icases HO' with ⟨%W, HO⟩
  iapply (body_run (parts m) K c (xIn m c) (rIn m c) (iIn m c) (eIn m c) (wIn m c) rfl W g5)
  isplitl [Hg Hcr Hlev Hs HO H0 H1 H2 H3 H4 H5]
  · isplitl [Hg]; · iexact Hg
    isplitl [Hcr]; · iexact Hcr
    isplitl [Hlev]; · iexact Hlev
    isplitl [Hs]; · iexact Hs
    isplitl [HO]; · iexact HO
    isplitl [H0 H1 H2 H3 H4]
    · unfold inputs
      isplitl [H0]; · iexact H0
      isplitl [H1]; · iexact H1
      isplitl [H2]; · iexact H2
      isplitl [H3]; · iexact H3
      iexact H4
    iexact H5
  unfold inputs bodyPost past
  iintro ⟨Hb, Hz, Hs, ⟨%W', HO⟩, ⟨H0, H1, H2, H3, H4⟩, H5⟩
  isplitl [Hb Hz Hs Hp]
  · isplitl [Hb]; · iexact Hb
    isplitl [Hz]; · iexact Hz
    isplitl [Hs]; · iexact Hs
    iexact Hp
  isplitl [HO]; · iapply (owesAt_intro m t0_0.succ 0 (owed_last m c) W'); iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

set_option maxRecDepth 4000 in
/-- The body does what the region asks of it. -/
theorem obligation (c : Dev nD) : BodyObligation (dat m c) (defs₀ (F := F)) 𝒱₀ () Set.univ := fun t => by
  rw [fin_N0 t]
  rw [bigSep_W0, bigSep_W0]
  simp only [owns_whole]
  exact sound m c

/-! ## The region -/

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- The buffers when the kernel begins and when it has ended. -/
def V₁ (c : Dev nD) : Valuation τ sig (Elt F) := StableHlo.after hostOps0 (V₀ m c)
def outEnd (c : Dev nD) : (main_v3 : Ref sig .tc).ty.Contents (Elt F) := (dat m c).arrAt (5 : Fin 6) cfg0.N
def V₂ (c : Dev nD) : Valuation τ sig (Elt F) := Function.update (V₁ m c) (Proc.devRef .tc main_v3) (outEnd m c)

theorem V₂_out (c : Dev nD) : V₂ m c (Proc.devRef .tc main_v3) = outEnd m c := Function.update_self _ _ _
theorem V₂_ne (c : Dev nD) {b : DevRef τ sig} (h : b ≠ Proc.devRef .tc main_v3) : V₂ m c b = V₁ m c b := Function.update_of_ne h _ _

/-- The buffers that no window stages. -/
def others : Finset (DevRef τ sig) := {Proc.devRef .tc main_arg3, Proc.devRef .tc main_v1}

theorem hopen (c : Dev nD) : iprop(((∃ K, dealt (parts m) K c) ∗ credits c) ∗ Pipeline.ownSems0 osem c ∗ levAts L lv)
    ⊢ (|={Set.univ}=> iprop((∃ K, opened (parts m) K c) ∗ credits c ∗ levAts L lv) : sProp 𝕄) := by
  iintro ⟨⟨⟨%K, Hd⟩, Hc⟩, Hs, Hlev⟩
  imod (open_all (parts m) K c) $$ [Hd Hs] with Ho
  · isplitl [Hd]; · iexact Hd
    iexact Hs
  imodintro
  isplitl [Ho]; · iexists K; iexact Ho
  isplitl [Hc]; · iexact Hc
  iexact Hlev

theorem held_empty (c : Dev nD) (W : Valuation τ sig (Elt F)) : (StableHlo.held (c.tc : Thread nD τ) ∅ W : sProp 𝕄) = BI.emp := by
  unfold StableHlo.held; exact BI.bigSep_empty

theorem Φ_first (c : Dev nD) : (dat m c).Φ 0 = before m c := rfl
theorem Φ_last (c : Dev nD) : (dat m c).Φ (Fin.last cfg0.N) = past c := rfl

theorem hin (c : Dev nD) : iprop(Pipeline.scopedRest (Pipeline.pin (pcfgs (F := F)) adm 0).spec c ∗ (∃ r, prngReg c r) ∗ StableHlo.held (c.tc : Thread nD τ) ∅ (V₁ m c)
      ∗ ((∃ K, opened (parts m) K c) ∗ credits c ∗ levAts L lv))
    ⊢ (pdats m 0 c).Φ 0 := by
  rw [show (pdats m 0 c).Φ 0 = before m c from Φ_first m c, held_empty]
  show iprop(Pipeline.scopedRest spec0 c ∗ _) ⊢ _
  rw [scopedRest0_eq]
  unfold before scratch
  iintro ⟨Hs, Hp, -, Ho, Hc, Hlev⟩
  isplitl [Ho]; · iexact Ho
  isplitl [Hc]; · iexact Hc
  isplitl [Hlev]; · iexact Hlev
  isplitl [Hs]; · iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c)
      ∗ Pipeline.ownSems0 osem c ∗ semVal (barCell c) 0) := by
  rw [show (pdats m 0 c).Φ (Fin.last _) = past c from Φ_last m c, held_empty]
  show _ ⊢ iprop(Pipeline.scopedRest spec0 c ∗ _)
  rw [scopedRest0_eq]
  unfold past scratch ownZero Pipeline.ownSems0
  iintro ⟨Hb, Hz, Hs, Hp⟩
  isplitl [Hs]; · iexact Hs
  isplitl [Hp]; · iexact Hp
  isplitr; · iempintro
  isplitl [Hz]; · iapply (own_join c fun g => (semVal g 0 : sProp 𝕄)); iexact Hz
  iexact Hb

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem lv_stage : ∀ (w : Fin 6) (s : Fin (spec0 w).nbuf), role (.dma ((cfg0.win w).sem s)) = .other := by decide

theorem cut_owed (c : Dev nD) (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then O₀ c else 0 := rfl
  rw [e] at h
  split at h
  · rcases O₀_pos h with ⟨j, rfl⟩ | ⟨j, rfl⟩
    · exact ⟨by rw [L_tc]; exact Finset.mem_singleton_self _, by rw [show lv (recvCell (pe c j) c) i = 2 from lv_recv _ _]; decide⟩
    · exact ⟨by rw [L_tc]; exact Finset.mem_singleton_self _, by unfold lv; rw [role_bar]; decide⟩
  · exact absurd h (Nat.lt_irrefl 0)

theorem entry_at (c : Dev nD) (w : Fin 6) : (dat m c).arrAt w 0 = V₁ m c (Proc.devRef .tc (Pipeline.arrRef spec0 w)) := rfl
theorem exit_at (c : Dev nD) (w : Fin 6) : (dat m c).arrAt w cfg0.N = V₂ m c (Proc.devRef .tc (Pipeline.arrRef spec0 w)) := by
  match w with
  | ⟨0, _⟩ => exact ((dat m c).arrAt_in 0 rfl _).trans (V₂_ne m c (b := Proc.devRef .tc (Pipeline.arrRef spec0 0)) (by decide)).symm
  | ⟨1, _⟩ => exact ((dat m c).arrAt_in 1 rfl _).trans (V₂_ne m c (b := Proc.devRef .tc (Pipeline.arrRef spec0 1)) (by decide)).symm
  | ⟨2, _⟩ => exact ((dat m c).arrAt_in 2 rfl _).trans (V₂_ne m c (b := Proc.devRef .tc (Pipeline.arrRef spec0 2)) (by decide)).symm
  | ⟨3, _⟩ => exact ((dat m c).arrAt_in 3 rfl _).trans (V₂_ne m c (b := Proc.devRef .tc (Pipeline.arrRef spec0 3)) (by decide)).symm
  | ⟨4, _⟩ => exact ((dat m c).arrAt_in 4 rfl _).trans (V₂_ne m c (b := Proc.devRef .tc (Pipeline.arrRef spec0 4)) (by decide)).symm
  | ⟨5, _⟩ => exact (V₂_out m c).symm

theorem share_eq (c : Dev nD) (w : Fin 6) : (dat m c).share w = fullShare := by unfold Dat.share; split <;> rfl

set_option backward.isDefEq.respectTransparency.types false in
/-- The kernel as one segment of the program: it gets its buffers and what the launch dealt, and leaves nothing owed. -/
def reg : ℝ𝕊 0 :=
  Pipeline.RegionSeg.ofTalk (pcfgs (F := F)) adm (pdats m) () defs₀ 𝒱₀ L lv 0 osem osem_facts
    ∅ others (Finset.empty_subset _) kit rfl (fun c => (obligation m c).loose)
    (fun _ => 0) O₀ (fun c => (owed_zero m c).trans (zero_add _).symm) (owed_last m) (fun _ => rfl) (fun c w => share_eq m c w)
    (V₁ m) (V₂ m) (fun c b hb => V₂_ne m c (by
      have h1 := (Finset.mem_sdiff.mp hb).1
      rcases Finset.mem_insert.mp h1 with rfl | h
      · decide
      · rw [Finset.mem_singleton.mp h]; decide))
    (fun c => iprop((∃ K, dealt (parts m) K c) ∗ credits c)) (fun c => semVal (barCell c) 0)
    (fun c => iprop((∃ K, opened (parts m) K c) ∗ credits c ∗ levAts L lv)) (fun c => semVal (barCell c) 0)
    (hopen m) (hin m) (hout m)
    (fun c => by iintro H; imodintro; iexact H)
    (fun _ => 0)
    ⟨fun c w s => by rw [L_tc]; exact Finset.mem_singleton_self _,
      fun c w s => by
        show lv ((c : Thread nD τ), .dma ((cfg0.win w).sem s)) () ≤ 0
        unfold lv; dsimp only; rw [lv_stage w s],
      fun c t g i h => cut_owed m c t g i h⟩
    (fun _ => iprop(emp))
    (fun c w => entry_at m c w) (fun c w => exit_at m c w)

/-! ## The program -/

theorem ops_sub : ∀ op ∈ (hostOps0 : List (HloOp τ sig (Elt F))), op.bufs ⊆ bufs := fun op h => by
  simp only [List.mem_cons, List.not_mem_nil, or_false] at h
  rcases h with rfl | rfl
  · show ({Proc.devRef .tc main_arg3, Proc.devRef .tc main_v1} : Finset (DevRef τ sig)) ⊆ bufs; decide
  · show ({Proc.devRef .tc main_v1, Proc.devRef .tc main_v2} : Finset (DevRef τ sig)) ⊆ bufs; decide
theorem ops_fresh : ∀ op ∈ (hostOps0 : List (HloOp τ sig (Elt F))), op.fresh = ∅ := fun op h => by
  simp only [List.mem_cons, List.not_mem_nil, or_false] at h
  rcases h with rfl | rfl <;> rfl

/-- The operations before the kernel; what was dealt rides along. -/
def seg : ℍ := Pipeline.HostSeg.ofOps _ _ _ _ _ bufs hostOps0 ops_sub ops_fresh (V₀ m) (riding (parts m))

def segs : List (Pipeline.Seg (pcfgs (F := F)) adm (pdats m) () defs₀ 𝒱₀ L lv) := [.host (seg m), .region (reg m)]

theorem main_eq (c : Dev nD) : main (F := F) c = Pipeline.Seg.run (segs m) := main_segs adm (pdats m) () 𝒱₀ L lv (seg m) (reg m) rfl c

/-- The long-lived buffers are the windows' arrays and the others. -/
theorem bufs_split (c : Dev nD) (W : Valuation τ sig (Elt F)) : (StableHlo.held (c.tc : Thread nD τ) bufs W : sProp 𝕄)
    = iprop(StableHlo.held (c.tc : Thread nD τ) (Pipeline.arrRefs (τ := τ) (pcfgs (F := F) 0).spec) W ∗ StableHlo.held (c.tc : Thread nD τ) others W) := by
  have h : bufs = Pipeline.arrRefs (τ := τ) spec0 ∪ others := by decide +kernel
  rw [h]
  unfold StableHlo.held
  exact bigSep_union (by decide +kernel)

theorem reg_pre (c : Dev nD) : iprop(StableHlo.held (c : Thread nD τ) bufs (V₁ m c) ∗ riding (parts m) c) ⊢ (reg m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) others (V₁ m c) ∗ emp) ∗ ((∃ K, dealt (parts m) K c) ∗ credits c) ∗ ∃ Wd, owes (c : Thread nD τ) (0 + O₀ c) Wd)
  rw [bufs_split, zero_add]
  unfold riding
  iintro ⟨⟨Ha, Hr⟩, Hd, Hc, Hp, HO⟩
  isplitl [Ha]; · iexact Ha
  isplitl [Hp]; · iexact Hp
  isplitl [Hr]
  · isplitl [Hr]; · iexact Hr
    iempintro
  isplitl [Hd Hc]
  · isplitl [Hd]; · iexact Hd
    iexact Hc
  iexact HO

theorem reg_post (c : Dev nD) : (reg m).post c
    ⊢ iprop((StableHlo.held (c : Thread nD τ) bufs (V₂ m c) ∗ semVal (barCell c) 0) ∗ ∃ W, owes (c : Thread nD τ) (0 : CellTallies nD τ sig Unit) W) := by
  show iprop(StableHlo.held (c.tc : Thread nD τ) (Pipeline.arrRefs (τ := τ) (pcfgs (F := F) 0).spec) (V₂ m c) ∗ (∃ r, prngReg c r)
    ∗ (StableHlo.held (c.tc : Thread nD τ) others (V₂ m c) ∗ emp) ∗ semVal (barCell c) 0 ∗ ∃ Wd, owes (c : Thread nD τ) (0 : CellTallies nD τ sig Unit) Wd) ⊢ _
  rw [bufs_split]
  iintro ⟨Ha, -, ⟨Hr, -⟩, Hb, HO⟩
  isplitr [HO]
  · isplitl [Ha Hr]
    · isplitl [Ha]; · iexact Ha
      iexact Hr
    iexact Hb
  iexact HO

theorem unscoped_eq : ∀ sm : SemLoc sig, sm.isScoped .tc = false → sm = .reg barS := by decide

theorem bufs_eq (c : Dev nD) (W : Valuation τ sig (Elt F)) : (StableHlo.held (c : Thread nD τ) bufs W : sProp 𝕄)
    = iprop(pt c main_arg0 (W main_arg0) ∗ pt c main_arg1 (W main_arg1) ∗ pt c main_arg2 (W main_arg2) ∗ pt c main_arg3 (W main_arg3)
      ∗ pt c main_arg4 (W main_arg4) ∗ pt c main_v1 (W main_v1) ∗ pt c main_v2 (W main_v2) ∗ pt c main_v3 (W main_v3)) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_v1, Proc.devRef .tc main_v2, Proc.devRef .tc main_v3] (by decide +kernel) (by decide +kernel)]
  rfl

theorem arg_kept (c : Dev nD) {b : Ref sig .tc} (h : (Proc.devRef .tc b : DevRef τ sig) ≠ Proc.devRef .tc main_v3) (hV : V m c b = m ((c : Thread nD τ).loc b)) :
    V₂ m c (Proc.devRef .tc b) = m ((c : Thread nD τ).loc b) := (V₂_ne m c h).trans hV

set_option backward.isDefEq.respectTransparency.types false in
/-- From any memory with all semaphores at zero the program ends on every device; it leaves the arguments as they were,
    the result array at `outEnd`, and every semaphore at zero. -/
theorem run_main : θ_run defs (onTc (τ := τ) (main (F := F))) ⟨m, fun _ => 0, ρ⟩
    (fun r => (∀ c : Dev nD, r.2.mem ((c : Thread nD τ).loc main_v3) = outEnd m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := seed) (u₀ := u₀)
    (hu₀ := by
      unfold u₀ seed
      iintro Hu
      ihave H := (ownU_pair _ _) $$ Hu
      icases H with ⟨HP, HX⟩
      imodintro
      isplitl [HP]; · iexact HP
      rw [bigSep_onZero]; iexact HX)
    (T₀ := fun c => iprop(StableHlo.held (c : Thread nD τ) bufs (V₀ m c) ∗ riding (parts m) c))
    (Tₙ := fun c => iprop(StableHlo.held (c : Thread nD τ) bufs (V₂ m c) ∗ semVal (barCell c) 0))
    (hch := ⟨fun c => .rfl, fun c => reg_pre m c, fun c => reg_post m c⟩)
    (hinit := init (parts m) m ρ)
    (QY := fun c s => (s.mem ((c : Thread nD τ).loc main_v3) = outEnd m c
        ∧ s.mem ((c : Thread nD τ).loc main_arg0) = m ((c : Thread nD τ).loc main_arg0)
        ∧ s.mem ((c : Thread nD τ).loc main_arg1) = m ((c : Thread nD τ).loc main_arg1)
        ∧ s.mem ((c : Thread nD τ).loc main_arg2) = m ((c : Thread nD τ).loc main_arg2)
        ∧ s.mem ((c : Thread nD τ).loc main_arg3) = m ((c : Thread nD τ).loc main_arg3)
        ∧ s.mem ((c : Thread nD τ).loc main_arg4) = m ((c : Thread nD τ).loc main_arg4)) ∧ s.sem (barCell c) = 0)
    (hfin := fun c s' => by
      rw [bufs_eq]
      iintro ⟨⟨⟨H0, H1, H2, H3, H4, -, -, H5⟩, Hb⟩, HSI⟩
      icombine HSI H0 gives %h0
      icombine HSI H1 gives %h1
      icombine HSI H2 gives %h2
      icombine HSI H3 gives %h3
      icombine HSI H4 gives %h4
      icombine HSI H5 gives %h5
      icombine HSI Hb gives %hb
      imodintro
      isplitr
      · ipureintro
        exact ⟨⟨(Buf.eq_of_forall_mem_univ h5).trans (V₂_out m c),
          (Buf.eq_of_forall_mem_univ h0).trans (arg_kept m c (by decide) (V_main_arg0 m c)),
          (Buf.eq_of_forall_mem_univ h1).trans (arg_kept m c (by decide) (V_main_arg1 m c)),
          (Buf.eq_of_forall_mem_univ h2).trans (arg_kept m c (by decide) (V_main_arg2 m c)),
          (Buf.eq_of_forall_mem_univ h3).trans (arg_kept m c (by decide) (V_main_arg3 m c)),
          (Buf.eq_of_forall_mem_univ h4).trans (arg_kept m c (by decide) (V_main_arg4 m c))⟩, by simpa using hb⟩
      iexact HSI)
    (hQ := fun s h hs => ⟨fun c => (h c).1, sem_eq_zero hs fun c sm hsm => by
        obtain rfl := unscoped_eq sm hsm
        exact (h c).2⟩)

end Cert.KernelIdeal.Exchange

end
-- ==== Proof.Blocks.lean ====
/- What the launch stages and what it leaves: the arrays of a device as the windows show them, and the result array, which ends
   at the block that the device computes. -/
module

public import proofs.«01_k».proof.Proof.Run
public import Idealize.ShloMosaic.Lib.Pipeline.ValueKit

@[expose] public section

noncomputable section

namespace Cert.KernelIdeal.Exchange

open Idealize.ShloMosaic Idealize.ShloMosaic.TcCoe Idealize.ShloMosaic.Tactic
open Idealize.ShloMosaic.Pipeline (Dat Cfg Window)
open Cert.KernelIdeal Cert.KernelIdeal.Gen

variable {F : FTy → Type} [FloatOps F]

/-- Every window shows the whole of its array. -/
theorem win_index : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] :=
  (by decide +kernel : ∀ t : Fin grid0.N, _)

theorem xIn_eq (m : (ℓ : Loc nD τ sig) → Buf (Elt F) ℓ) (c : Dev nD) : xIn m c = m ((c : Thread nD τ).loc main_arg0) := by
  unfold xIn
  blk_ext! [iblk, V, win_index t0_0]
theorem rIn_eq (m : (ℓ : Loc nD τ sig) → Buf (Elt F) ℓ) (c : Dev nD) : rIn m c = m ((c : Thread nD τ).loc main_arg1) := by
  unfold rIn
  blk_ext! [iblk, V, win_index t0_0]
theorem iIn_eq (m : (ℓ : Loc nD τ sig) → Buf (Elt F) ℓ) (c : Dev nD) : iIn m c = m ((c : Thread nD τ).loc main_arg2) := by
  unfold iIn
  blk_ext! [iblk, V, win_index t0_0]
theorem wIn_eq (m : (ℓ : Loc nD τ sig) → Buf (Elt F) ℓ) (c : Dev nD) : wIn m c = m ((c : Thread nD τ).loc main_arg4) := by
  unfold wIn
  blk_ext! [iblk, V, win_index t0_0]
/-- The experts' weights of a device, the two experts one below the other. -/
theorem eIn_eq (m : (ℓ : Loc nD τ sig) → Buf (Elt F) ℓ) (c : Dev nD) :
    eIn m c = truncf .bf16 (shapeCast S512x512 (m ((c : Thread nD τ).loc main_arg3)) shapeCasts_S2x256x512_S512x512) bitsLt_bf16_f32 := by
  have hV : V m c main_v2 = truncf .bf16 (shapeCast S512x512 (m ((c : Thread nD τ).loc main_arg3)) shapeCasts_S2x256x512_S512x512) bitsLt_bf16_f32 := by
    show StableHlo.after hostOps0 (fun b => m (c, b)) (Proc.devRef .tc main_v2) = _
    after_results_simp <;> rfl
  rw [← hV]
  unfold eIn
  blk_ext! [iblk, win_index t0_0]

/-- The result array of a device ends at the block that the device computes. -/
theorem outEnd_eq (m : (ℓ : Loc nD τ sig) → Buf (Elt F) ℓ) (c : Dev nD) : outEnd m c = block m c := by
  unfold outEnd
  refine (dat m c).arrAt_eq_of_after_last (5 : Fin 6) t0_0 (by decide +kernel) _ fun j => ?_
  show block m c _ = block m c _
  congr 1

end Cert.KernelIdeal.Exchange

end
-- ==== Proof.Claims.lean ====
/- The claims: the runs of the programs, and that the blocks which the devices end with are the blocks of the reference's result. -/
module

public import proofs.«01_k».proof.Proof.Equation
public import proofs.«01_k».proof.Proof.Blocks
public import proofs.«01_k».proof.Defs
public import proofs.«01_k».proof.Proof.Gen.Kernel
public import proofs.«01_k».proof.Proof.Gen.ReferenceIdeal.Run
public import proofs.«01_k».proof.Proof.Gen.Pre_finite_scores_KernelIdeal
public import proofs.«01_k».proof.Proof.Gen.Pre_finite_scores_ReferenceIdeal

@[expose] public section

noncomputable section

namespace Cert.Claims

open Idealize.ShloMosaic hiding ix1 ix2 ix3
open Idealize.ShloMosaic.ValueIdx Idealize.ShloMosaic.TcCoe
open Idealize.SL.Sem
open Cert.KernelIdeal.Exchange
open Cert.Weights
open scoped BigOperators

/-- An array whose entries the precondition compares below infinity has real entries. -/
theorem real_of_pre {S : Shape} (x : FVec Ideal S .f32) (h0) (h : cmpf .olt (Host.absf x) (broadcastInDim S ![] h0 (constant (F := Ideal) ⟨0, ![]⟩ .f32 0x7F800000#32)) = fun _ => 1#1)
    (i : S.Idx) : ∃ a : ℝ, x i = a := by
  have e := congrFun h i
  have e' : BitVec.ofBool (decide (max (x i) (-(x i)) < Ideal.ofBits .f32 0x7F800000#32)) = 1#1 := e
  have ht : Ideal.ofBits .f32 0x7F800000#32 = (⊤ : EReal) := by simp [Ideal.ofBits, Ideal.ieee]
  rw [ht] at e'
  refine real_of_abs ?_
  by_contra hn
  rw [decide_eq_false hn] at e'
  exact absurd e' (by decide)

/-- A device's block of the experts' weights, by the number of the expert in the whole array. -/
theorem experts_block (W : FVec Ideal Cert.ReferenceIdeal.S8x256x512 .f32) (d : Fin 4) (e : Fin 2) (k : Fin 256) (h : Fin 512) :
    Layout.block ⟨3, ![2, 256, 512]⟩ ⟨3, ![8, 256, 512]⟩ 0 4 d W (by decide) (ix3 e k h) = W (ix3 ⟨2 * d.val + e.val, by omega⟩ k h) := by
  rw [Layout.block_apply]
  congr 1
  funext a
  apply Fin.ext
  rw [Layout.Tiles.idx_val]
  match a with
  | 0 => show d.val * 2 + e.val = 2 * d.val + e.val; omega
  | 1 => rfl
  | 2 => rfl

/-- Every device ends with its block of the reference's result. -/
theorem block_eq (m : (ℓ : Loc Cert.KernelIdeal.nD Cert.KernelIdeal.τ Cert.KernelIdeal.sig) → Buf (Elt Ideal) ℓ)
    (x : FVec Ideal Cert.KernelIdeal.S512x256 .f32) (r : FVec Ideal Cert.KernelIdeal.S256x8 .f32) (idx : IVec Cert.KernelIdeal.S512x1 32)
    (W : FVec Ideal Cert.ReferenceIdeal.S8x256x512 .f32) (sh : FVec Ideal Cert.KernelIdeal.S256x512 .f32)
    (h0 : ∀ c : Dev Cert.KernelIdeal.nD, m ((c : Thread Cert.KernelIdeal.nD Cert.KernelIdeal.τ).loc Cert.KernelIdeal.main_arg0) = x)
    (h1 : ∀ c : Dev Cert.KernelIdeal.nD, m ((c : Thread Cert.KernelIdeal.nD Cert.KernelIdeal.τ).loc Cert.KernelIdeal.main_arg1) = r)
    (h2 : ∀ c : Dev Cert.KernelIdeal.nD, m ((c : Thread Cert.KernelIdeal.nD Cert.KernelIdeal.τ).loc Cert.KernelIdeal.main_arg2) = idx)
    (h3 : ∀ c : Dev Cert.KernelIdeal.nD, m ((c : Thread Cert.KernelIdeal.nD Cert.KernelIdeal.τ).loc Cert.KernelIdeal.main_arg3)
      = Layout.block ⟨3, ![2, 256, 512]⟩ ⟨3, ![8, 256, 512]⟩ 0 4 c W)
    (h4 : ∀ c : Dev Cert.KernelIdeal.nD, m ((c : Thread Cert.KernelIdeal.nD Cert.KernelIdeal.τ).loc Cert.KernelIdeal.main_arg4) = sh)
    (hX : ∀ i, ∃ a : ℝ, x i = a) (hR : ∀ i, ∃ a : ℝ, r i = a) (c : Dev Cert.KernelIdeal.nD) :
    block m c = Layout.block ⟨2, ![128, 512]⟩ ⟨2, ![512, 512]⟩ 0 4 c (Cert.ReferenceIdeal.Read.result x r idx W sh) := by
  have hparts (d : Fin 4) (i h : Fin 512) : parts m d (ix2 i h)
      = share x (gate x r idx i) (decide (idx (ix2 i 0) = BitVec.ofNat 32 (2 * d.val))) i (fun k => W (ix3 ⟨2 * d.val, by omega⟩ k h))
        + share x (gate x r idx i) (decide (idx (ix2 i 0) = BitVec.ofNat 32 (2 * d.val + 1))) i (fun k => W (ix3 ⟨2 * d.val + 1, by omega⟩ k h)) := by
    unfold parts
    rw [xIn_eq, rIn_eq, iIn_eq, eIn_eq, h0, h1, h2, h3]
    refine (partOf_apply d x r idx _ i h).trans ?_
    rw [Equation.routed_eq]
    congr 2
    · funext k; exact experts_block W d 0 k h
    · funext k; exact experts_block W d 1 k h
  funext j
  obtain ⟨a, b, rfl⟩ : ∃ (a : Fin 128) (b : Fin 512), j = ix2 a b := ⟨j 0, j 1, by funext q; match q with | 0 => rfl | 1 => rfl⟩
  have hj : (Layout.block ⟨2, ![128, 512]⟩ ⟨2, ![512, 512]⟩ 0 4 c (Cert.ReferenceIdeal.Read.result x r idx W sh) : _ → EReal) (ix2 a b)
      = Cert.ReferenceIdeal.Read.result x r idx W sh (ix2 (rowOf c a) b) := by
    rw [Layout.block_apply]
    congr 1
    funext q
    apply Fin.ext
    rw [Layout.Tiles.idx_val]
    match q with
    | 0 => show c.val * 128 + a.val = 128 * c.val + a.val; omega
    | 1 => rfl
  refine Eq.trans ?_ hj.symm
  rw [Cert.ReferenceIdeal.Read.result_apply]
  unfold block
  rw [xIn_eq, wIn_eq, h0, h4]
  refine (outOf_apply (parts m) c x sh a b).trans ?_
  congr 1
  rw [← Equation.shares x r idx W hX hR]
  exact Equation.pairs _ _ fun d => hparts d (rowOf c a) b

/-- The kernel leaves its arguments as they were and its counters at zero. -/
theorem frame_ideal : Cert.quiescent_KernelIdeal := fun m g _ =>
  (θ_run Cert.KernelIdeal.defs _ _).mono (fun _ h => ⟨fun c => (h.1 c).2, h.2⟩) (run_main (F := Ideal) m g)

/-- The two programs of the kernel have one table of kernel bodies. -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

/-- Hence one table of everything that they call. -/
theorem tables_eq : Cert.Kernel.defs (F := Bits) = Cert.KernelIdeal.defs (F := Bits) :=
  congrArg (Pipeline.defs Cert.Kernel.pcfgs) bodies_eq

/-- The kernel over words leaves its arguments and its counters likewise. -/
theorem frame_kernel : Cert.quiescent_Kernel := by
  intro m g _
  rw [tables_eq]
  exact (θ_run Cert.KernelIdeal.defs _ _).mono (fun _ h => ⟨fun c => (h.1 c).2, h.2⟩) (run_main (F := Bits) m g)

/-- So does the reference. -/
theorem frame_reference : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The devices' results are the blocks of the reference's, where the tokens and the router's weights are finite. -/
theorem algebraic : Cert.algebraic_KernelIdeal_ReferenceIdeal_pre_finite_scores_KernelIdeal := by
  intro m g m' g' hpre hargs
  have hX := real_of_pre _ _ (hpre 0).1
  have hR := real_of_pre _ _ (hpre 0).2
  rw [(hargs 0).1] at hX
  rw [(hargs 0).2.1] at hR
  refine ⟨_, (θ_run Cert.KernelIdeal.defs _ _).mono (fun _ h c => ⟨?_, (h.1 c).2⟩) (run_main (F := Ideal) m g),
    (θ_run Cert.ReferenceIdeal.defs _ _).mono (fun _ h => ⟨(h 0).1, (h 0).2⟩) (Cert.ReferenceIdeal.Value.run (F := Ideal) m' g')⟩
  rw [(h.1 c).1, outEnd_eq]
  exact block_eq m _ _ _ _ _ (fun c => (hargs c).1) (fun c => (hargs c).2.1) (fun c => (hargs c).2.2.1) (fun c => (hargs c).2.2.2.1)
    (fun c => (hargs c).2.2.2.2) hX hR c

end Cert.Claims

end
-- ==== Proof.lean ====
module

public import proofs.«01_k».proof.Defs
public import proofs.«01_k».proof.Proof.Claims

@[expose] public section

noncomputable section

namespace Cert.Proof

open Cert.Claims

/-- All that is claimed. The frames under the precondition are the plain ones, which do not read it. -/
theorem claim : Cert.Claim :=
  ⟨Cert.Kernel.Gen.facts, Cert.KernelIdeal.Gen.facts, Cert.ReferenceIdeal.Gen.facts, Cert.Pre_finite_scores_KernelIdeal.Gen.facts,
    Cert.Pre_finite_scores_ReferenceIdeal.Gen.facts,
    frame_kernel, frame_ideal, fun m g _ => frame_ideal m g trivial, frame_reference, fun m g _ => frame_reference m g trivial, trivial, algebraic⟩

end Cert.Proof

end
